-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_parameters_finite [hPre_parameters_finite : Cert.Pre_parameters_finite.Facts] (m : (ℓ : Loc Cert.KernelIdeal.nD Cert.KernelIdeal.τ Cert.KernelIdeal.sig) → Buf (Elt Ideal) ℓ) : Prop :=
  ∀ c : Dev Cert.KernelIdeal.nD,
    (Cert.Pre_parameters_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_parameters_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_parameters_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_parameters_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_parameters_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_parameters_finite [hPre_parameters_finite : Cert.Pre_parameters_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_parameters_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_parameters_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_parameters_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_parameters_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_parameters_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_parameters_finite [hKernelIdeal : Cert.KernelIdeal.Facts] [hPre_parameters_finite : Cert.Pre_parameters_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_parameters_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_parameters_finite [hReferenceIdeal : Cert.ReferenceIdeal.Facts] [hPre_parameters_finite : Cert.Pre_parameters_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_parameters_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "two_log2e" .f32 0x4038AA3B#32 ((2 * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_parameters_finite [hKernelIdeal : Cert.KernelIdeal.Facts] [hReferenceIdeal : Cert.ReferenceIdeal.Facts] [hPre_parameters_finite : Cert.Pre_parameters_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_parameters_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_parameters_finite : Cert.Pre_parameters_finite.Facts),
    quiescent_Kernel (hKernel := hKernel)
    ∧ quiescent_KernelIdeal (hKernelIdeal := hKernelIdeal)
    ∧ quiescent_KernelIdeal_pre_parameters_finite (hKernelIdeal := hKernelIdeal) (hPre_parameters_finite := hPre_parameters_finite)
    ∧ quiescent_ReferenceIdeal (hReferenceIdeal := hReferenceIdeal)
    ∧ quiescent_ReferenceIdeal_pre_parameters_finite (hReferenceIdeal := hReferenceIdeal) (hPre_parameters_finite := hPre_parameters_finite)
    ∧ preserves_Kernel_KernelIdeal
    ∧ algebraic_KernelIdeal_ReferenceIdeal_pre_parameters_finite (hKernelIdeal := hKernelIdeal) (hReferenceIdeal := hReferenceIdeal) (hPre_parameters_finite := hPre_parameters_finite)
-- ==== Pre_parameters_finite.lean ====
abbrev S2x2048x768 : Shape := ⟨3, ![2, 2048, 768]⟩
abbrev S768x3072 : Shape := ⟨2, ![768, 3072]⟩
abbrev S3072 : Shape := ⟨1, ![3072]⟩
abbrev S3072x768 : Shape := ⟨2, ![3072, 768]⟩
abbrev S768 : Shape := ⟨1, ![768]⟩
abbrev S512x32 : Shape := ⟨2, ![512, 32]⟩
abbrev S_ : Shape := ⟨0, ![]⟩

class Facts : Prop where
  bcast_S_S768x3072 : S_.BroadcastsInDim S768x3072 (![] : Fin 0 → Fin S768x3072.rank)
  bcast_S_S3072 : S_.BroadcastsInDim S3072 (![] : Fin 0 → Fin S3072.rank)
  bcast_S_S3072x768 : S_.BroadcastsInDim S3072x768 (![] : Fin 0 → Fin S3072x768.rank)
  bcast_S_S768 : S_.BroadcastsInDim S768 (![] : Fin 0 → Fin S768.rank)
  bcast_S_S512x32 : S_.BroadcastsInDim S512x32 (![] : Fin 0 → Fin S512x32.rank)

variable [Facts]

def fn {F : FTy → Type} [FloatOps F] (main_arg0 : FVec F S2x2048x768 .f32) (main_arg1 : FVec F S768x3072 .f32) (main_arg2 : FVec F S3072 .f32) (main_arg3 : FVec F S3072x768 .f32) (main_arg4 : FVec F S768 .f32) (main_arg5 : FVec F S512x32 .f32) : IVec S768x3072 1 × IVec S3072 1 × IVec S3072x768 1 × IVec S768 1 × IVec S512x32 1 :=
  let main_v0 : FVec F S768x3072 .f32 := Host.absf main_arg1
  let main_cst : FVec F S_ .f32 := constant S_ .f32 0x7F800000#32
  let main_v1 : FVec F S768x3072 .f32 := broadcastInDim S768x3072 ![] bcast_S_S768x3072 main_cst
  let main_v2 : IVec S768x3072 1 := cmpf .olt main_v0 main_v1
  let main_v3 : FVec F S3072 .f32 := Host.absf main_arg2
  let main_cst_0 : FVec F S_ .f32 := constant S_ .f32 0x7F800000#32
  let main_v4 : FVec F S3072 .f32 := broadcastInDim S3072 ![] bcast_S_S3072 main_cst_0
  let main_v5 : IVec S3072 1 := cmpf .olt main_v3 main_v4
  let main_v6 : FVec F S3072x768 .f32 := Host.absf main_arg3
  let main_cst_1 : FVec F S_ .f32 := constant S_ .f32 0x7F800000#32
  let main_v7 : FVec F S3072x768 .f32 := broadcastInDim S3072x768 ![] bcast_S_S3072x768 main_cst_1
  let main_v8 : IVec S3072x768 1 := cmpf .olt main_v6 main_v7
  let main_v9 : FVec F S768 .f32 := Host.absf main_arg4
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_v12 : FVec F S512x32 .f32 := Host.absf main_arg5
  let main_cst_3 : FVec F S_ .f32 := constant S_ .f32 0x7F800000#32
  let main_v13 : FVec F S512x32 .f32 := broadcastInDim S512x32 ![] bcast_S_S512x32 main_cst_3
  let main_v14 : IVec S512x32 1 := cmpf .olt main_v12 main_v13
  (main_v2, main_v5, main_v8, main_v11, main_v14)
-- ==== Kernel.lean ====
abbrev S2x2048x768 : Shape := ⟨3, ![2, 2048, 768]⟩
abbrev S768x3072 : Shape := ⟨2, ![768, 3072]⟩
abbrev S3072 : Shape := ⟨1, ![3072]⟩
abbrev S3072x768 : Shape := ⟨2, ![3072, 768]⟩
abbrev S768 : Shape := ⟨1, ![768]⟩
abbrev S512x32 : Shape := ⟨2, ![512, 32]⟩
abbrev S4x4 : Shape := ⟨2, ![4, 4]⟩
abbrev S_ : Shape := ⟨0, ![]⟩
abbrev S4x1x4x1 : Shape := ⟨4, ![4, 1, 4, 1]⟩
abbrev S1x512x1x32 : Shape := ⟨4, ![1, 512, 1, 32]⟩
abbrev S4x512x4x32 : Shape := ⟨4, ![4, 512, 4, 32]⟩
abbrev S2048x128 : Shape := ⟨2, ![2048, 128]⟩
abbrev S32x512 : Shape := ⟨2, ![32, 512]⟩
abbrev S1x32x1x512 : Shape := ⟨4, ![1, 32, 1, 512]⟩
abbrev S4x32x4x512 : Shape := ⟨4, ![4, 32, 4, 512]⟩
abbrev S128x2048 : Shape := ⟨2, ![128, 2048]⟩
abbrev S512 : Shape := ⟨1, ![512]⟩
abbrev S1x512 : Shape := ⟨2, ![1, 512]⟩
abbrev S4x512 : Shape := ⟨2, ![4, 512]⟩
abbrev S2048 : Shape := ⟨1, ![2048]⟩
abbrev S1x2048 : Shape := ⟨2, ![1, 2048]⟩
abbrev S3840 : Shape := ⟨1, ![3840]⟩
abbrev S30x128 : Shape := ⟨2, ![30, 128]⟩
abbrev S4096x768 : Shape := ⟨2, ![4096, 768]⟩
abbrev S96x3072 : Shape := ⟨2, ![96, 3072]⟩
abbrev S384x768 : Shape := ⟨2, ![384, 768]⟩
abbrev S512x768 : Shape := ⟨2, ![512, 768]⟩
abbrev S1x3072 : Shape := ⟨2, ![1, 3072]⟩
abbrev S1x768 : Shape := ⟨2, ![1, 768]⟩
abbrev S4096x3072 : Shape := ⟨2, ![4096, 3072]⟩
abbrev S30x2048 : Shape := ⟨2, ![30, 2048]⟩
abbrev S30x512 : Shape := ⟨2, ![30, 512]⟩
abbrev S30 : Shape := ⟨1, ![30]⟩
abbrev S30x1 : Shape := ⟨2, ![30, 1]⟩
abbrev S30x32 : Shape := ⟨2, ![30, 32]⟩
abbrev S24x128 : Shape := ⟨2, ![24, 128]⟩
abbrev S6x128 : Shape := ⟨2, ![6, 128]⟩
abbrev S32x3072 : Shape := ⟨2, ![32, 3072]⟩
abbrev S768x128 : Shape := ⟨2, ![768, 128]⟩
abbrev S768x2048 : Shape := ⟨2, ![768, 2048]⟩
abbrev S768x512 : Shape := ⟨2, ![768, 512]⟩
abbrev S768x1 : Shape := ⟨2, ![768, 1]⟩
abbrev S768x32 : Shape := ⟨2, ![768, 32]⟩
abbrev S128x768 : Shape := ⟨2, ![128, 768]⟩
abbrev S512x3072 : Shape := ⟨2, ![512, 3072]⟩

abbrev nBuf : Space → Nat
  | .hbm => 38
  | .vmem => 17
  | .smem => 0
  | _ => 0

abbrev bufTy : (tb : Table) → Fin (tcTables nBuf tb) → BufTy
  | .hbm, ⟨0, _⟩ => ⟨S2x2048x768, .f32⟩
  | .hbm, ⟨1, _⟩ => ⟨S768x3072, .f32⟩
  | .hbm, ⟨2, _⟩ => ⟨S3072, .f32⟩
  | .hbm, ⟨3, _⟩ => ⟨S3072x768, .f32⟩
  | .hbm, ⟨4, _⟩ => ⟨S768, .f32⟩
  | .hbm, ⟨5, _⟩ => ⟨S512x32, .f32⟩
  | .hbm, ⟨6, _⟩ => ⟨S4x4, .i32⟩
  | .hbm, ⟨7, _⟩ => ⟨S4x4, .i32⟩
  | .hbm, ⟨8, _⟩ => ⟨S_, .i32⟩
  | .hbm, ⟨9, _⟩ => ⟨S4x4, .i32⟩
  | .hbm, ⟨10, _⟩ => ⟨S4x4, .i32⟩
  | .hbm, ⟨11, _⟩ => ⟨S4x4, .i1⟩
  | .hbm, ⟨12, _⟩ => ⟨S4x4, .f32⟩
  | .hbm, ⟨13, _⟩ => ⟨S4x1x4x1, .f32⟩
  | .hbm, ⟨14, _⟩ => ⟨S1x512x1x32, .f32⟩
  | .hbm, ⟨15, _⟩ => ⟨S4x512x4x32, .f32⟩
  | .hbm, ⟨16, _⟩ => ⟨S4x512x4x32, .f32⟩
  | .hbm, ⟨17, _⟩ => ⟨S4x512x4x32, .f32⟩
  | .hbm, ⟨18, _⟩ => ⟨S2048x128, .f32⟩
  | .hbm, ⟨19, _⟩ => ⟨S2048x128, .bf16⟩
  | .hbm, ⟨20, _⟩ => ⟨S32x512, .f32⟩
  | .hbm, ⟨21, _⟩ => ⟨S4x1x4x1, .f32⟩
  | .hbm, ⟨22, _⟩ => ⟨S1x32x1x512, .f32⟩
  | .hbm, ⟨23, _⟩ => ⟨S4x32x4x512, .f32⟩
  | .hbm, ⟨24, _⟩ => ⟨S4x32x4x512, .f32⟩
  | .hbm, ⟨25, _⟩ => ⟨S4x32x4x512, .f32⟩
  | .hbm, ⟨26, _⟩ => ⟨S128x2048, .f32⟩
  | .hbm, ⟨27, _⟩ => ⟨S512x32, .f32⟩
  | .hbm, ⟨28, _⟩ => ⟨S_, .f32⟩
  | .hbm, ⟨29, _⟩ => ⟨S512, .f32⟩
  | .hbm, ⟨30, _⟩ => ⟨S1x512, .f32⟩
  | .hbm, ⟨31, _⟩ => ⟨S4x512, .f32⟩
  | .hbm, ⟨32, _⟩ => ⟨S2048, .f32⟩
  | .hbm, ⟨33, _⟩ => ⟨S1x2048, .f32⟩
  | .hbm, ⟨34, _⟩ => ⟨S3840, .f32⟩
  | .hbm, ⟨35, _⟩ => ⟨S30x128, .f32⟩
  | .hbm, ⟨36, _⟩ => ⟨S4096x768, .f32⟩
  | .hbm, ⟨37, _⟩ => ⟨S4096x768, .f32⟩
  | .local _ .vmem, ⟨0, _⟩ => ⟨S96x3072, .f32⟩
  | .local _ .vmem, ⟨1, _⟩ => ⟨S96x3072, .f32⟩
  | .local _ .vmem, ⟨2, _⟩ => ⟨S384x768, .f32⟩
  | .local _ .vmem, ⟨3, _⟩ => ⟨S384x768, .f32⟩
  | .local _ .vmem, ⟨4, _⟩ => ⟨S30x128, .f32⟩
  | .local _ .vmem, ⟨5, _⟩ => ⟨S512x768, .f32⟩
  | .local _ .vmem, ⟨6, _⟩ => ⟨S512x768, .f32⟩
  | .local _ .vmem, ⟨7, _⟩ => ⟨S128x2048, .f32⟩
  | .local _ .vmem, ⟨8, _⟩ => ⟨S1x2048, .f32⟩
  | .local _ .vmem, ⟨9, _⟩ => ⟨S2048x128, .bf16⟩
  | .local _ .vmem, ⟨10, _⟩ => ⟨S512x768, .f32⟩
  | .local _ .vmem, ⟨11, _⟩ => ⟨S512x768, .f32⟩
  | .local _ .vmem, ⟨12, _⟩ => ⟨S768x3072, .bf16⟩
  | .local _ .vmem, ⟨13, _⟩ => ⟨S3072x768, .bf16⟩
  | .local _ .vmem, ⟨14, _⟩ => ⟨S1x3072, .f32⟩
  | .local _ .vmem, ⟨15, _⟩ => ⟨S1x768, .f32⟩
  | .local _ .vmem, ⟨16, _⟩ => ⟨S4096x3072, .bf16⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c1_i32 : BitVec 32 := 1#32
  let v14 : BitVec 1 := Scalar.cmpi .sge arg0 c1_i32
  let c9_i32 : BitVec 32 := 9#32
  let v15 : BitVec 1 := Scalar.cmpi .slt arg0 c9_i32
  let v16 : BitVec 1 := Scalar.andi v14 v15
  let v17 : BitVec 32 := Scalar.extui v16
  let c0_i32_7 : BitVec 32 := 0#32
  let v18 : BitVec 1 := Scalar.cmpi .ne v17 c0_i32_7
  v18

def k0_off1 (i : grid0.Coords) (c0_i32_21 : BitVec 32) : Fin 2 → Nat :=
  let arg0 : BitVec 32 := BitVec.ofNat 32 (i 0).val
  let c1_i32_20 : BitVec 32 := 1#32
  let v64 : BitVec 32 := Scalar.subi arg0 c1_i32_20
  let c3_i32 : BitVec 32 := 3#32
  let v65 : BitVec 32 := Scalar.muli v64 c3_i32
  let c32_i32 : BitVec 32 := 32#32
  let v66 : BitVec 32 := Scalar.muli v65 c32_i32
  let v67 : BitVec 32 := Scalar.addi v66 c0_i32_21
  let v68 : Index := Scalar.indexCast v67
  let c0_22 : Index := 0#32
  ![v68.toNat, 0]
def k0_cond3 (i : grid0.Coords) : BitVec 1 :=
  let arg0 : BitVec 32 := BitVec.ofNat 32 (i 0).val
  let c9_i32_8 : BitVec 32 := 9#32
  let v19 : BitVec 1 := Scalar.cmpi .sge arg0 c9_i32_8
  let c17_i32 : BitVec 32 := 17#32
  let v20 : BitVec 1 := Scalar.cmpi .slt arg0 c17_i32
  let v21 : BitVec 1 := Scalar.andi v19 v20
  let v22 : BitVec 32 := Scalar.extui v21
  let c0_i32_9 : BitVec 32 := 0#32
  let v23 : BitVec 1 := Scalar.cmpi .ne v22 c0_i32_9
  v23

def k0_off2 (i : grid0.Coords) (c0_i32_21 : BitVec 32) : Fin 2 → Nat :=
  let arg0 : BitVec 32 := BitVec.ofNat 32 (i 0).val
  let c9_i32_20 : BitVec 32 := 9#32
  let v64 : BitVec 32 := Scalar.subi arg0 c9_i32_20
  let c3_i32 : BitVec 32 := 3#32
  let v65 : BitVec 32 := Scalar.muli v64 c3_i32
  let c128_i32 : BitVec 32 := 128#32
  let v66 : BitVec 32 := Scalar.muli v65 c128_i32
  let v67 : BitVec 32 := Scalar.addi v66 c0_i32_21
  let v68 : Index := Scalar.indexCast v67
  let c0_22 : Index := 0#32
  ![v68.toNat, 0]
def k0_off3 (i : grid0.Coords) : Fin 2 → Nat :=
  let arg0 : BitVec 32 := BitVec.ofNat 32 (i 0).val
  let c9_i32_54 : BitVec 32 := 9#32
  let v173 : BitVec 32 := Scalar.subi arg0 c9_i32_54
  let c512_i32 : BitVec 32 := 512#32
  let v174 : BitVec 32 := Scalar.muli v173 c512_i32
  let v175 : Index := Scalar.indexCast v174
  let c0_55 : Index := 0#32
  ![v175.toNat, 0]
def k0_cond4 (i : grid0.Coords) : BitVec 1 :=
  let arg0 : BitVec 32 := BitVec.ofNat 32 (i 0).val
  let c17_i32_10 : BitVec 32 := 17#32
  let v24 : BitVec 1 := Scalar.cmpi .sge arg0 c17_i32_10
  let v25 : BitVec 32 := Scalar.extui v24
  let c0_i32_11 : BitVec 32 := 0#32
  let v26 : BitVec 1 := Scalar.cmpi .ne v25 c0_i32_11
  v26

def k0_off4 (i : grid0.Coords) : Fin 2 → Nat :=
  let arg0 : BitVec 32 := BitVec.ofNat 32 (i 0).val
  let c17_i32_12 : BitVec 32 := 17#32
  let v27 : BitVec 32 := Scalar.subi arg0 c17_i32_12
  let c512_i32 : BitVec 32 := 512#32
  let v28 : BitVec 32 := Scalar.muli v27 c512_i32
  let v29 : Index := Scalar.indexCast v28
  let c0_13 : Index := 0#32
  ![v29.toNat, 0]
def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c17_i32 : BitVec 32 := 17#32
  let v0 : BitVec 32 := Scalar.subi arg0 c17_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

abbrev stage0_0 : Fin 2 → Memref sig .tc .vmem S96x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S30x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "log2e" => some (((Real.log 2)⁻¹ : ℝ) : EReal)
  | "two_log2e" => some ((2 * (Real.log 2)⁻¹ : ℝ) : EReal)
  | _ => none
-- ==== ReferenceIdeal.lean ====
abbrev S2x2048x768 : Shape := ⟨3, ![2, 2048, 768]⟩
abbrev S768x3072 : Shape := ⟨2, ![768, 3072]⟩
abbrev S3072 : Shape := ⟨1, ![3072]⟩
abbrev S3072x768 : Shape := ⟨2, ![3072, 768]⟩
abbrev S768 : Shape := ⟨1, ![768]⟩
abbrev S512x32 : Shape := ⟨2, ![512, 32]⟩
abbrev S2359296 : Shape := ⟨1, ![2359296]⟩
abbrev S73728x32 : Shape := ⟨2, ![73728, 32]⟩
abbrev S_ : Shape := ⟨0, ![]⟩
abbrev S73728 : Shape := ⟨1, ![73728]⟩
abbrev S73728x1 : Shape := ⟨2, ![73728, 1]⟩
abbrev S32x512 : Shape := ⟨2, ![32, 512]⟩
abbrev S73728x512 : Shape := ⟨2, ![73728, 512]⟩
abbrev S512 : Shape := ⟨1, ![512]⟩
abbrev S1x512 : Shape := ⟨2, ![1, 512]⟩
abbrev S96x32 : Shape := ⟨2, ![96, 32]⟩
abbrev S96 : Shape := ⟨1, ![96]⟩
abbrev S96x1 : Shape := ⟨2, ![96, 1]⟩
abbrev S96x512 : Shape := ⟨2, ![96, 512]⟩
abbrev S24x32 : Shape := ⟨2, ![24, 32]⟩
abbrev S24 : Shape := ⟨1, ![24]⟩
abbrev S24x1 : Shape := ⟨2, ![24, 1]⟩
abbrev S24x512 : Shape := ⟨2, ![24, 512]⟩
abbrev S2x2048x3072 : Shape := ⟨3, ![2, 2048, 3072]⟩
abbrev S1x1x3072 : Shape := ⟨3, ![1, 1, 3072]⟩
abbrev S1x1x768 : Shape := ⟨3, ![1, 1, 768]⟩
abbrev S4096x768 : Shape := ⟨2, ![4096, 768]⟩

abbrev nBuf : Space → Nat
  | .hbm => 170
  | .vmem => 0
  | .smem => 0
  | _ => 0

abbrev hbmTy0_0 (i : Nat) : BufTy := match i % 128 with
  | 0 => ⟨S2x2048x768, .f32⟩
  | 1 => ⟨S768x3072, .f32⟩
  | 2 => ⟨S3072, .f32⟩
  | 3 => ⟨S3072x768, .f32⟩
  | 4 => ⟨S768, .f32⟩
  | 5 => ⟨S512x32, .f32⟩
  | 6 => ⟨S2359296, .f32⟩
  | 7 => ⟨S73728x32, .f32⟩
  | 8 => ⟨S73728x32, .f32⟩
  | 9 => ⟨S_, .f32⟩
  | 10 => ⟨S73728, .f32⟩
  | 11 => ⟨S73728x1, .f32⟩
  | 12 => ⟨S32x512, .f32⟩
  | 13 => ⟨S73728x512, .f32⟩
  | 14 => ⟨S_, .f32⟩
  | 15 => ⟨S73728x512, .f32⟩
  | 16 => ⟨S73728x512, .f32⟩
  | 17 => ⟨S73728x512, .f32⟩
  | 18 => ⟨S73728x512, .f32⟩
  | 19 => ⟨S512x32, .f32⟩
  | 20 => ⟨S_, .f32⟩
  | 21 => ⟨S512, .f32⟩
  | 22 => ⟨S1x512, .f32⟩
  | 23 => ⟨S73728x512, .f32⟩
  | 24 => ⟨S73728x512, .f32⟩
  | 25 => ⟨S_, .f32⟩
  | 26 => ⟨S73728x512, .f32⟩
  | 27 => ⟨S73728x512, .f32⟩
  | 28 => ⟨S_, .f32⟩
  | 29 => ⟨S73728, .f32⟩
  | 30 => ⟨S_, .f32⟩
  | 31 => ⟨S73728, .f32⟩
  | 32 => ⟨S73728, .f32⟩
  | 33 => ⟨S73728x1, .f32⟩
  | 34 => ⟨S73728x512, .f32⟩
  | 35 => ⟨S73728x512, .f32⟩
  | 36 => ⟨S73728x512, .f32⟩
  | 37 => ⟨S_, .f32⟩
  | 38 => ⟨S73728, .f32⟩
  | 39 => ⟨S73728x1, .f32⟩
  | 40 => ⟨S73728x512, .f32⟩
  | 41 => ⟨S73728x512, .f32⟩
  | 42 => ⟨S73728x32, .f32⟩
  | 43 => ⟨S2359296, .f32⟩
  | 44 => ⟨S768x3072, .f32⟩
  | 45 => ⟨S96x32, .f32⟩
  | 46 => ⟨S96x32, .f32⟩
  | 47 => ⟨S_, .f32⟩
  | 48 => ⟨S96, .f32⟩
  | 49 => ⟨S96x1, .f32⟩
  | 50 => ⟨S32x512, .f32⟩
  | 51 => ⟨S96x512, .f32⟩
  | 52 => ⟨S_, .f32⟩
  | 53 => ⟨S96x512, .f32⟩
  | 54 => ⟨S96x512, .f32⟩
  | 55 => ⟨S96x512, .f32⟩
  | 56 => ⟨S96x512, .f32⟩
  | 57 => ⟨S512x32, .f32⟩
  | 58 => ⟨S_, .f32⟩
  | 59 => ⟨S512, .f32⟩
  | 60 => ⟨S1x512, .f32⟩
  | 61 => ⟨S96x512, .f32⟩
  | 62 => ⟨S96x512, .f32⟩
  | 63 => ⟨S_, .f32⟩
  | 64 => ⟨S96x512, .f32⟩
  | 65 => ⟨S96x512, .f32⟩
  | 66 => ⟨S_, .f32⟩
  | 67 => ⟨S96, .f32⟩
  | 68 => ⟨S_, .f32⟩
  | 69 => ⟨S96, .f32⟩
  | 70 => ⟨S96, .f32⟩
  | 71 => ⟨S96x1, .f32⟩
  | 72 => ⟨S96x512, .f32⟩
  | 73 => ⟨S96x512, .f32⟩
  | 74 => ⟨S96x512, .f32⟩
  | 75 => ⟨S_, .f32⟩
  | 76 => ⟨S96, .f32⟩
  | 77 => ⟨S96x1, .f32⟩
  | 78 => ⟨S96x512, .f32⟩
  | 79 => ⟨S96x512, .f32⟩
  | 80 => ⟨S96x32, .f32⟩
  | 81 => ⟨S3072, .f32⟩
  | 82 => ⟨S2359296, .f32⟩
  | 83 => ⟨S73728x32, .f32⟩
  | 84 => ⟨S73728x32, .f32⟩
  | 85 => ⟨S_, .f32⟩
  | 86 => ⟨S73728, .f32⟩
  | 87 => ⟨S73728x1, .f32⟩
  | 88 => ⟨S32x512, .f32⟩
  | 89 => ⟨S73728x512, .f32⟩
  | 90 => ⟨S_, .f32⟩
  | 91 => ⟨S73728x512, .f32⟩
  | 92 => ⟨S73728x512, .f32⟩
  | 93 => ⟨S73728x512, .f32⟩
  | 94 => ⟨S73728x512, .f32⟩
  | 95 => ⟨S512x32, .f32⟩
  | 96 => ⟨S_, .f32⟩
  | 97 => ⟨S512, .f32⟩
  | 98 => ⟨S1x512, .f32⟩
  | 99 => ⟨S73728x512, .f32⟩
  | 100 => ⟨S73728x512, .f32⟩
  | 101 => ⟨S_, .f32⟩
  | 102 => ⟨S73728x512, .f32⟩
  | 103 => ⟨S73728x512, .f32⟩
  | 104 => ⟨S_, .f32⟩
  | 105 => ⟨S73728, .f32⟩
  | 106 => ⟨S_, .f32⟩
  | 107 => ⟨S73728, .f32⟩
  | 108 => ⟨S73728, .f32⟩
  | 109 => ⟨S73728x1, .f32⟩
  | 110 => ⟨S73728x512, .f32⟩
  | 111 => ⟨S73728x512, .f32⟩
  | 112 => ⟨S73728x512, .f32⟩
  | 113 => ⟨S_, .f32⟩
  | 114 => ⟨S73728, .f32⟩
  | 115 => ⟨S73728x1, .f32⟩
  | 116 => ⟨S73728x512, .f32⟩
  | 117 => ⟨S73728x512, .f32⟩
  | 118 => ⟨S73728x32, .f32⟩
  | 119 => ⟨S2359296, .f32⟩
  | 120 => ⟨S3072x768, .f32⟩
  | 121 => ⟨S24x32, .f32⟩
  | 122 => ⟨S24x32, .f32⟩
  | 123 => ⟨S_, .f32⟩
  | 124 => ⟨S24, .f32⟩
  | 125 => ⟨S24x1, .f32⟩
  | 126 => ⟨S32x512, .f32⟩
  | 127 => ⟨S24x512, .f32⟩
  | _ => ⟨S2x2048x768, .f32⟩

abbrev hbmTy0_1 (i : Nat) : BufTy := match i % 128 with
  | 0 => ⟨S_, .f32⟩
  | 1 => ⟨S24x512, .f32⟩
  | 2 => ⟨S24x512, .f32⟩
  | 3 => ⟨S24x512, .f32⟩
  | 4 => ⟨S24x512, .f32⟩
  | 5 => ⟨S512x32, .f32⟩
  | 6 => ⟨S_, .f32⟩
  | 7 => ⟨S512, .f32⟩
  | 8 => ⟨S1x512, .f32⟩
  | 9 => ⟨S24x512, .f32⟩
  | 10 => ⟨S24x512, .f32⟩
  | 11 => ⟨S_, .f32⟩
  | 12 => ⟨S24x512, .f32⟩
  | 13 => ⟨S24x512, .f32⟩
  | 14 => ⟨S_, .f32⟩
  | 15 => ⟨S24, .f32⟩
  | 16 => ⟨S_, .f32⟩
  | 17 => ⟨S24, .f32⟩
  | 18 => ⟨S24, .f32⟩
  | 19 => ⟨S24x1, .f32⟩
  | 20 => ⟨S24x512, .f32⟩
  | 21 => ⟨S24x512, .f32⟩
  | 22 => ⟨S24x512, .f32⟩
  | 23 => ⟨S_, .f32⟩
  | 24 => ⟨S24, .f32⟩
  | 25 => ⟨S24x1, .f32⟩
  | 26 => ⟨S24x512, .f32⟩
  | 27 => ⟨S24x512, .f32⟩
  | 28 => ⟨S24x32, .f32⟩
  | 29 => ⟨S768, .f32⟩
  | 30 => ⟨S2x2048x3072, .f32⟩
  | 31 => ⟨S1x1x3072, .f32⟩
  | 32 => ⟨S2x2048x3072, .f32⟩
  | 33 => ⟨S2x2048x3072, .f32⟩
  | 34 => ⟨S_, .f32⟩
  | 35 => ⟨S2x2048x3072, .f32⟩
  | 36 => ⟨S2x2048x3072, .f32⟩
  | 37 => ⟨S2x2048x768, .f32⟩
  | 38 => ⟨S1x1x768, .f32⟩
  | 39 => ⟨S2x2048x768, .f32⟩
  | 40 => ⟨S2x2048x768, .f32⟩
  | 41 => ⟨S4096x768, .f32⟩
  | _ => ⟨S2x2048x768, .f32⟩

abbrev hbmTy (i : Nat) : BufTy := match i / 128 with
  | 0 => hbmTy0_0 i
  | 1 => hbmTy0_1 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_16 : Ref sig .tc := ⟨.hbm, 101, rfl⟩
abbrev main_v78 : Ref sig .tc := ⟨.hbm, 102, rfl⟩
abbrev main_v79 : Ref sig .tc := ⟨.hbm, 103, rfl⟩
abbrev main_cst_17 : Ref sig .tc := ⟨.hbm, 104, rfl⟩
abbrev main_v80 : Ref sig .tc := ⟨.hbm, 105, rfl⟩
abbrev main_cst_18 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_19 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_20 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_21 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_22 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_23 : Ref sig .tc := ⟨.hbm, 139, rfl⟩
abbrev main_v109 : Ref sig .tc := ⟨.hbm, 140, rfl⟩
abbrev main_v110 : Ref sig .tc := ⟨.hbm, 141, rfl⟩
abbrev main_cst_24 : Ref sig .tc := ⟨.hbm, 142, rfl⟩
abbrev main_v111 : Ref sig .tc := ⟨.hbm, 143, rfl⟩
abbrev main_cst_25 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_26 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_cst_27 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩

abbrev nD : Nat := 1
abbrev τ : Topo := Topo.v7x

variable {F : FTy → Type} [FloatOps F]
-- ==== Proof.Rows.lean ====
/- Buffers of rows that are written band by band: what a store of the next band of rows leaves. -/
module

public import Idealize.ShloMosaic.Lib.WritesUnit
public import Idealize.ShloMosaic.Lib.VecWindow
public import Idealize.ShloMosaic.Lib.ValueIdxCore
public import Idealize.ShloMosaic.Lib.Pipeline.ValueKit.Tiles

@[expose] public section

namespace Cert.Rows

open Idealize.ShloMosaic ValueIdx

variable {sig : RefSig} {κ : Kind} {sp : Space} {e : EltTy} {Val : EltTy → Type} {n0 n1 : ℕ}

/-- Rows `o, …, o + W - 1` of a rank-2 array, as an array. -/
def band {α : Type} (W o : ℕ) (h : o + W ≤ n0) (g : (⟨2, ![n0, n1]⟩ : Shape).Idx → α) : (⟨2, ![W, n1]⟩ : Shape).Idx → α :=
  fun x => g (ix2 ⟨o + (x 0).val, by have := idx2_lt0 x; omega⟩ (x 1))

/-- A load of whole rows from row `o` is the band there. -/
theorem ld_band {off : Fin 2 → ℕ} {W o : ℕ} (h : o + W ≤ n0)
    (inb : ∀ a, off a + (![W, n1] : Fin 2 → ℕ) a ≤ (⟨2, ![n0, n1]⟩ : Shape).size a) (hoff : off = ![o, 0])
    (g : (⟨2, ![n0, n1]⟩ : Shape).Idx → Val e) :
    View.ld (S := ⟨2, ![n0, n1]⟩) g (Rect.unit (s := ⟨2, ![n0, n1]⟩) off ![W, n1] inb) = band W o h g := by
  subst hoff
  funext x
  refine congrArg g (funext fun a => Fin.ext ?_)
  match a with
  | ⟨0, _⟩ => show o + 1 * (x 0).val = o + (x 0).val; omega
  | ⟨1, _⟩ => show 0 + 1 * (x 1).val = (x 1).val; omega

/-- A load of all of a rank-2 array is the array. -/
theorem ld_whole (inb : ∀ a, (![0, 0] : Fin 2 → ℕ) a + (![n0, n1] : Fin 2 → ℕ) a ≤ (⟨2, ![n0, n1]⟩ : Shape).size a)
    (g : (⟨2, ![n0, n1]⟩ : Shape).Idx → Val e) :
    View.ld (S := ⟨2, ![n0, n1]⟩) g (Rect.unit (s := ⟨2, ![n0, n1]⟩) ![0, 0] ![n0, n1] inb) = g :=
  View.ld_unit_zero (S := ⟨2, ![n0, n1]⟩) (by funext a; fin_cases a <;> rfl) inb g

/-- If the rows before `o` hold `G` and a store writes rows `o, …, o + W - 1` with `G`'s, the rows before `o + W` hold `G`. -/
theorem extend (v : View sig κ sp (⟨2, ![n0, n1]⟩ : Shape) e) (f : v.ty.Contents Val) {off : Fin 2 → ℕ} {W o : ℕ}
    (inb : ∀ a : Fin 2, off a + (![W, n1] : Fin 2 → ℕ) a ≤ (![n0, n1] : Fin 2 → ℕ) a) (hoff : off = ![o, 0])
    (w : (⟨2, ![W, n1]⟩ : Shape).Idx → Val e) (L : List (View.Piece Val (⟨2, ![n0, n1]⟩ : Shape) e))
    (G : (⟨2, ![n0, n1]⟩ : Shape).Idx → Val e)
    (hL : ∀ y, (y 0).val < o → v.read Val (v.writes Val f L) y = G y)
    (hw : ∀ (r : Fin W) (l : Fin n1) (hr : o + r.val < n0), w (ix2 r l) = G (ix2 ⟨o + r.val, hr⟩ l)) :
    ∀ y, (y 0).val < o + W →
      v.read Val (v.writes Val f ((⟨Rect.unit (s := ⟨2, ![n0, n1]⟩) off ![W, n1] inb, w⟩ : View.Piece Val (⟨2, ![n0, n1]⟩ : Shape) e) :: L)) y
        = G y := by
  intro y hy
  by_cases h : (y 0).val < o
  · rw [View.read_writes_cons_rows_of_not_mem v f (o := o) (W := W) inb w L y hoff rfl (Or.inl h)]
    exact hL y h
  · have hy0 := idx2_lt0 y
    refine (View.read_writes_cons_rows_of_mem v f (o := o) inb w L y (ix2 ⟨(y 0).val - o, by omega⟩ (y 1)) hoff
      (show (y 0).val = o + ((y 0).val - o) by omega) rfl).trans ?_
    refine (hw ⟨(y 0).val - o, by omega⟩ (y 1) (show o + ((y 0).val - o) < n0 by omega)).trans (congrArg G ?_)
    refine (?_ : _ = ix2 (y 0) (y 1)).trans (eq_ix2 y).symm
    exact congrArg (fun q : Fin n0 => (ix2 q (y 1) : (⟨2, ![n0, n1]⟩ : Shape).Idx))
      (Fin.ext (show o + ((y 0).val - o) = (y 0).val by omega))

end Cert.Rows
-- ==== Proof.KernelIdeal.Run.lean ====
/- The kernel's body run at each of its four kinds of grid point: which pieces it stores, and what each holds. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first condition of the body: the grid point is point 0. -/
abbrev k0_cond1 (i : grid0.Coords) : Prop :=
  (Scalar.cmpi .ne (Scalar.extui (Scalar.cmpi .eq (BitVec.ofNat 32 (i 0).val) 0#32)) 0#32) = 1#1

set_option maxHeartbeats 4000000 in
/-- Grid point 0: the two rows of quantised biases are stored. -/
noncomputable def run_A (c : Dev nD) (i : grid0.Coords) (arg1 : Memref sig .tc .vmem S96x3072 .f32) (harg1 : arg1.IsWhole) (arg2 : Memref sig .tc .vmem S384x768 .f32) (harg2 : arg2.IsWhole) (arg3 : Memref sig .tc .vmem S30x128 .f32) (harg3 : arg3.IsWhole) (arg4 : Memref sig .tc .vmem S512x768 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S2048x128 .bf16) (harg7 : arg7.IsWhole) (arg8 : Memref sig .tc .vmem S512x768 .f32) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S1x3072 .f32) (harg11 : arg11.IsWhole) (arg12 : Memref sig .tc .vmem S1x768 .f32) (harg12 : arg12.IsWhole) (arg13 : Memref sig .tc .vmem S4096x3072 .bf16) (harg13 : arg13.IsWhole) (hc0 : k0_cond1 i) (hc1 : ¬k0_cond2 i = 1#1) (hc2 : ¬k0_cond3 i = 1#1) (hc3 : ¬k0_cond4 i = 1#1) (x3 : Vec F S30x128 .f32) (x5 : Vec F S128x2048 .f32) (x6 : Vec F S1x2048 .f32) (x7 : Vec F S2048x128 .bf16) (x11 : Vec F S1x3072 .f32) (x12 : Vec F S1x768 .f32) :
    Σ' (L11 : List (View.Piece (Elt F) S1x3072 .f32)), { L12 : List (View.Piece (Elt F) S1x768 .f32) //
      ∀ (E : Set ℕ) (K : PUnit → sProp 𝕄),
        iprop(owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg11 fullShare x11 ∗ owns (c : Thread nD τ) arg12 fullShare x12
            ∗ (iprop(owns (c : Thread nD τ) arg3 fullShare x3 ∗ owns (c : Thread nD τ) arg5 fullShare x5 ∗ owns (c : Thread nD τ) arg6 fullShare x6 ∗ owns (c : Thread nD τ) arg7 fullShare x7 ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12)) -∗ K ⟨⟩))
          ⊢ wp frame (wpE (defs₀ (F := F)) Variants.none c none) E (cc0__mega_body i arg1 harg1 arg2 harg2 arg3 harg3 arg4 harg4 arg5 harg5 arg6 harg6 arg7 harg7 arg8 harg8 arg9 harg9 arg10 harg10 arg11 harg11 arg12 harg12 arg13 harg13) K } := by
  refine ⟨?_, ⟨?_, fun E K => ?run⟩⟩
  case run =>
    simp only [cc0__mega_body_eq_skeleton]; unfold cc0__mega_body_skel
    unfold owns
    iintro ⟨⟨%f3, %hf3, H3⟩, ⟨%f5, %hf5, H5⟩, ⟨%f6, %hf6, H6⟩, ⟨%f7, %hf7, H7⟩, ⟨%f11, %hf11, H11⟩, ⟨%f12, %hf12, H12⟩, Hk⟩
    obtain rfl := harg3.eq_unread hf3; obtain rfl := harg5.eq_unread hf5; obtain rfl := harg6.eq_unread hf6; obtain rfl := harg7.eq_unread hf7; obtain rfl := harg11.eq_unread hf11; obtain rfl := harg12.eq_unread hf12
    skip
    sl_exec (disch := first | sl_exact hc0 | sl_exact hc1 | sl_exact hc2 | sl_exact hc3)
    sl_step
    iapply Hk
    isplitl [H3]
    · iexists _; isplitr
      · ipureintro; exact harg3.read_unread _
      iexact H3
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H11]
    · iexact H11
    iexact H12

set_option maxHeartbeats 4000000 in
/-- A point of the first weight matrix's: three blocks of 32 quantised rows are stored. -/
noncomputable def run_B (c : Dev nD) (i : grid0.Coords) (arg1 : Memref sig .tc .vmem S96x3072 .f32) (harg1 : arg1.IsWhole) (arg2 : Memref sig .tc .vmem S384x768 .f32) (harg2 : arg2.IsWhole) (arg3 : Memref sig .tc .vmem S30x128 .f32) (harg3 : arg3.IsWhole) (arg4 : Memref sig .tc .vmem S512x768 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S2048x128 .bf16) (harg7 : arg7.IsWhole) (arg8 : Memref sig .tc .vmem S512x768 .f32) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S1x3072 .f32) (harg11 : arg11.IsWhole) (arg12 : Memref sig .tc .vmem S1x768 .f32) (harg12 : arg12.IsWhole) (arg13 : Memref sig .tc .vmem S4096x3072 .bf16) (harg13 : arg13.IsWhole) (hc0 : ¬ k0_cond1 i) (hc1 : k0_cond2 i = 1#1) (hc2 : ¬k0_cond3 i = 1#1) (hc3 : ¬k0_cond4 i = 1#1) (x1 : Vec F S96x3072 .f32) (x5 : Vec F S128x2048 .f32) (x6 : Vec F S1x2048 .f32) (x7 : Vec F S2048x128 .bf16) (x9 : Vec F S768x3072 .bf16) :
    { L9 : List (View.Piece (Elt F) S768x3072 .bf16) //
      ∀ (E : Set ℕ) (K : PUnit → sProp 𝕄),
        iprop(owns (c : Thread nD τ) arg1 fullShare x1 ∗ owns (c : Thread nD τ) arg5 fullShare x5 ∗ owns (c : Thread nD τ) arg6 fullShare x6 ∗ owns (c : Thread nD τ) arg7 fullShare x7 ∗ owns (c : Thread nD τ) arg9 fullShare x9
            ∗ (iprop(owns (c : Thread nD τ) arg1 fullShare x1 ∗ owns (c : Thread nD τ) arg5 fullShare x5 ∗ owns (c : Thread nD τ) arg6 fullShare x6 ∗ owns (c : Thread nD τ) arg7 fullShare x7 ∗ (arg9.view.loc (c : Thread nD τ) ↦[arg9.view.set]{fullShare} arg9.view.writes (Elt F) (harg9.unread x9) L9)) -∗ K ⟨⟩))
          ⊢ wp frame (wpE (defs₀ (F := F)) Variants.none c none) E (cc0__mega_body i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__mega_body_eq_skeleton]; unfold cc0__mega_body_skel
    unfold owns
    iintro ⟨⟨%f1, %hf1, H1⟩, ⟨%f5, %hf5, H5⟩, ⟨%f6, %hf6, H6⟩, ⟨%f7, %hf7, H7⟩, ⟨%f9, %hf9, H9⟩, Hk⟩
    obtain rfl := harg1.eq_unread hf1; obtain rfl := harg5.eq_unread hf5; obtain rfl := harg6.eq_unread hf6; obtain rfl := harg7.eq_unread hf7; obtain rfl := harg9.eq_unread hf9
    simp only [k0_part1_eq_skeleton, k0_part2_eq_skeleton]; unfold k0_part1_skel k0_part2_skel
    sl_exec (disch := first | sl_exact hc0 | sl_exact hc1 | sl_exact hc2 | sl_exact hc3)
    sl_step
    iapply Hk
    isplitl [H1]
    · iexists _; isplitr
      · ipureintro; exact harg1.read_unread _
      iexact H1
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    iexact H9

set_option maxHeartbeats 4000000 in
/-- A point of the second weight matrix's: three blocks of 128 quantised rows are stored, and 512 rows of the hidden layer. -/
noncomputable def run_C (c : Dev nD) (i : grid0.Coords) (arg1 : Memref sig .tc .vmem S96x3072 .f32) (harg1 : arg1.IsWhole) (arg2 : Memref sig .tc .vmem S384x768 .f32) (harg2 : arg2.IsWhole) (arg3 : Memref sig .tc .vmem S30x128 .f32) (harg3 : arg3.IsWhole) (arg4 : Memref sig .tc .vmem S512x768 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S2048x128 .bf16) (harg7 : arg7.IsWhole) (arg8 : Memref sig .tc .vmem S512x768 .f32) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S1x3072 .f32) (harg11 : arg11.IsWhole) (arg12 : Memref sig .tc .vmem S1x768 .f32) (harg12 : arg12.IsWhole) (arg13 : Memref sig .tc .vmem S4096x3072 .bf16) (harg13 : arg13.IsWhole) (hc0 : ¬ k0_cond1 i) (hc1 : ¬k0_cond2 i = 1#1) (hc2 : k0_cond3 i = 1#1) (hc3 : ¬k0_cond4 i = 1#1) (x2 : Vec F S384x768 .f32) (x4 : Vec F S512x768 .f32) (x5 : Vec F S128x2048 .f32) (x6 : Vec F S1x2048 .f32) (x7 : Vec F S2048x128 .bf16) (x9 : Vec F S768x3072 .bf16) (x10 : Vec F S3072x768 .bf16) (x11 : Vec F S1x3072 .f32) (x13 : Vec F S4096x3072 .bf16) :
    Σ' (L10 : List (View.Piece (Elt F) S3072x768 .bf16)), { L13 : List (View.Piece (Elt F) S4096x3072 .bf16) //
      ∀ (E : Set ℕ) (K : PUnit → sProp 𝕄),
        iprop(owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg10 fullShare x10 ∗ owns (c : Thread nD τ) arg11 fullShare x11 ∗ owns (c : Thread nD τ) arg13 fullShare x13
            ∗ (iprop(owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare x9 ∗ (arg10.view.loc (c : Thread nD τ) ↦[arg10.view.set]{fullShare} arg10.view.writes (Elt F) (harg10.unread x10) L10) ∗ owns (c : Thread nD τ) arg11 fullShare x11 ∗ (arg13.view.loc (c : Thread nD τ) ↦[arg13.view.set]{fullShare} arg13.view.writes (Elt F) (harg13.unread x13) L13)) -∗ K ⟨⟩))
          ⊢ wp frame (wpE (defs₀ (F := F)) Variants.none c none) E (cc0__mega_body i arg1 harg1 arg2 harg2 arg3 harg3 arg4 harg4 arg5 harg5 arg6 harg6 arg7 harg7 arg8 harg8 arg9 harg9 arg10 harg10 arg11 harg11 arg12 harg12 arg13 harg13) K } := by
  refine ⟨?_, ⟨?_, fun E K => ?run⟩⟩
  case run =>
    simp only [cc0__mega_body_eq_skeleton]; unfold cc0__mega_body_skel
    unfold owns
    iintro ⟨⟨%f2, %hf2, H2⟩, ⟨%f4, %hf4, H4⟩, ⟨%f5, %hf5, H5⟩, ⟨%f6, %hf6, H6⟩, ⟨%f7, %hf7, H7⟩, ⟨%f9, %hf9, H9⟩, ⟨%f10, %hf10, H10⟩, ⟨%f11, %hf11, H11⟩, ⟨%f13, %hf13, H13⟩, Hk⟩
    obtain rfl := harg2.eq_unread hf2; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg13.eq_unread hf13
    simp only [k0_part3_eq_skeleton, k0_part4_eq_skeleton, k0_part5_eq_skeleton]; unfold k0_part3_skel k0_part4_skel k0_part5_skel
    sl_exec (disch := first | sl_exact hc0 | sl_exact hc1 | sl_exact hc2 | sl_exact hc3)
    sl_step
    iapply Hk
    isplitl [H2]
    · iexists _; isplitr
      · ipureintro; exact harg2.read_unread _
      iexact H2
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H9]
    · iexists _; isplitr
      · ipureintro; exact harg9.read_unread _
      iexact H9
    isplitl [H10]
    · iexact H10
    isplitl [H11]
    · iexists _; isplitr
      · ipureintro; exact harg11.read_unread _
      iexact H11
    iexact H13

set_option maxHeartbeats 4000000 in
/-- A point of the result's: one block of 512 rows is stored. -/
noncomputable def run_D (c : Dev nD) (i : grid0.Coords) (arg1 : Memref sig .tc .vmem S96x3072 .f32) (harg1 : arg1.IsWhole) (arg2 : Memref sig .tc .vmem S384x768 .f32) (harg2 : arg2.IsWhole) (arg3 : Memref sig .tc .vmem S30x128 .f32) (harg3 : arg3.IsWhole) (arg4 : Memref sig .tc .vmem S512x768 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S2048x128 .bf16) (harg7 : arg7.IsWhole) (arg8 : Memref sig .tc .vmem S512x768 .f32) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S1x3072 .f32) (harg11 : arg11.IsWhole) (arg12 : Memref sig .tc .vmem S1x768 .f32) (harg12 : arg12.IsWhole) (arg13 : Memref sig .tc .vmem S4096x3072 .bf16) (harg13 : arg13.IsWhole) (hc0 : ¬ k0_cond1 i) (hc1 : ¬k0_cond2 i = 1#1) (hc2 : ¬k0_cond3 i = 1#1) (hc3 : k0_cond4 i = 1#1) (x5 : Vec F S128x2048 .f32) (x6 : Vec F S1x2048 .f32) (x7 : Vec F S2048x128 .bf16) (x8 : Vec F S512x768 .f32) (x10 : Vec F S3072x768 .bf16) (x12 : Vec F S1x768 .f32) (x13 : Vec F S4096x3072 .bf16) :
    { L8 : List (View.Piece (Elt F) S512x768 .f32) //
      ∀ (E : Set ℕ) (K : PUnit → sProp 𝕄),
        iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg10 fullShare x10 ∗ owns (c : Thread nD τ) arg12 fullShare x12 ∗ owns (c : Thread nD τ) arg13 fullShare x13
            ∗ (iprop(owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) (harg8.unread x8) L8) ∗ owns (c : Thread nD τ) arg10 fullShare x10 ∗ owns (c : Thread nD τ) arg12 fullShare x12 ∗ owns (c : Thread nD τ) arg13 fullShare x13) -∗ K ⟨⟩))
          ⊢ wp frame (wpE (defs₀ (F := F)) Variants.none c none) E (cc0__mega_body i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__mega_body_eq_skeleton]; unfold cc0__mega_body_skel
    unfold owns
    iintro ⟨⟨%f5, %hf5, H5⟩, ⟨%f6, %hf6, H6⟩, ⟨%f7, %hf7, H7⟩, ⟨%f8, %hf8, H8⟩, ⟨%f10, %hf10, H10⟩, ⟨%f12, %hf12, H12⟩, ⟨%f13, %hf13, H13⟩, Hk⟩
    obtain rfl := harg5.eq_unread hf5; obtain rfl := harg6.eq_unread hf6; obtain rfl := harg7.eq_unread hf7; obtain rfl := harg8.eq_unread hf8; obtain rfl := harg10.eq_unread hf10; obtain rfl := harg12.eq_unread hf12; obtain rfl := harg13.eq_unread hf13
    skip
    sl_exec (disch := first | sl_exact hc0 | sl_exact hc1 | sl_exact hc2 | sl_exact hc3)
    sl_step
    iapply Hk
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexact H8
    isplitl [H10]
    · iexists _; isplitr
      · ipureintro; exact harg10.read_unread _
      iexact H10
    isplitl [H12]
    · iexists _; isplitr
      · ipureintro; exact harg12.read_unread _
      iexact H12
    iexists _; isplitr
    · ipureintro; exact harg13.read_unread _
    iexact H13

end Cert.KernelIdeal.Hand

end
-- ==== Proof.KernelIdeal.Steps.lean ====
/- What the kernel's scratch buffers come to hold, and what each kind of grid point adds to them. -/
module

public import proofs.«01_k».proof.Proof.Rows
public import proofs.«01_k».proof.Proof.KernelIdeal.Run
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The conditions and the offsets at a point -/

theorem N_eq : cfg0.N = 25 := N_0

/-- Which of the four kinds a grid point is. -/
theorem cond1_iff : ∀ t : Fin cfg0.N, k0_cond1 (grid0.coords t) ↔ t.val = 0 :=
  (by decide +kernel : ∀ t : Fin grid0.N, k0_cond1 (grid0.coords t) ↔ t.val = 0)
theorem cond2_iff : ∀ t : Fin cfg0.N, k0_cond2 (grid0.coords t) = 1#1 ↔ (1 ≤ t.val ∧ t.val < 9) :=
  (by decide +kernel : ∀ t : Fin grid0.N, k0_cond2 (grid0.coords t) = 1#1 ↔ (1 ≤ t.val ∧ t.val < 9))
theorem cond3_iff : ∀ t : Fin cfg0.N, k0_cond3 (grid0.coords t) = 1#1 ↔ (9 ≤ t.val ∧ t.val < 17) :=
  (by decide +kernel : ∀ t : Fin grid0.N, k0_cond3 (grid0.coords t) = 1#1 ↔ (9 ≤ t.val ∧ t.val < 17))
theorem cond4_iff : ∀ t : Fin cfg0.N, k0_cond4 (grid0.coords t) = 1#1 ↔ 17 ≤ t.val :=
  (by decide +kernel : ∀ t : Fin grid0.N, k0_cond4 (grid0.coords t) = 1#1 ↔ 17 ≤ t.val)

/-- Where the bands of rows are stored and loaded. -/
theorem off1_eq : ∀ (t : Fin cfg0.N) (k : Fin 3), 1 ≤ t.val → t.val < 9 →
    k0_off1 (grid0.coords t) (BitVec.ofNat 32 (32 * k.val)) = ![96 * (t.val - 1) + 32 * k.val, 0] :=
  (by decide +kernel : ∀ (t : Fin grid0.N) (k : Fin 3), 1 ≤ t.val → t.val < 9 →
    k0_off1 (grid0.coords t) (BitVec.ofNat 32 (32 * k.val)) = ![96 * (t.val - 1) + 32 * k.val, 0])
theorem off2_eq : ∀ (t : Fin cfg0.N) (k : Fin 3), 9 ≤ t.val → t.val < 17 →
    k0_off2 (grid0.coords t) (BitVec.ofNat 32 (128 * k.val)) = ![384 * (t.val - 9) + 128 * k.val, 0] :=
  (by decide +kernel : ∀ (t : Fin grid0.N) (k : Fin 3), 9 ≤ t.val → t.val < 17 →
    k0_off2 (grid0.coords t) (BitVec.ofNat 32 (128 * k.val)) = ![384 * (t.val - 9) + 128 * k.val, 0])
theorem off3_eq : ∀ t : Fin cfg0.N, 9 ≤ t.val → t.val < 17 → k0_off3 (grid0.coords t) = ![512 * (t.val - 9), 0] :=
  (by decide +kernel : ∀ t : Fin grid0.N, 9 ≤ t.val → t.val < 17 → k0_off3 (grid0.coords t) = ![512 * (t.val - 9), 0])
theorem off4_eq : ∀ t : Fin cfg0.N, 17 ≤ t.val → k0_off4 (grid0.coords t) = ![512 * (t.val - 17), 0] :=
  (by decide +kernel : ∀ t : Fin grid0.N, 17 ≤ t.val → k0_off4 (grid0.coords t) = ![512 * (t.val - 17), 0])

/-- The result's window is idle, and not written back, at the points before its own. -/
theorem idle7 : ∀ t : Fin cfg0.N, t.val < 17 → cfg0.idle 7 (grid0.coords t) = true :=
  (by decide +kernel : ∀ t : Fin grid0.N, t.val < 17 → cfg0.idle 7 (grid0.coords t) = true)
theorem noFlush7 : ∀ t : Fin cfg0.N, t.val < 17 → (cfg0.win 7).flush t = false :=
  (by decide +kernel : ∀ t : Fin grid0.N, t.val < 17 → (cfg0.win 7).flush t = false)
theorem live7 : ∀ t : Fin cfg0.N, 17 ≤ t.val → cfg0.idle 7 (grid0.coords t) = false :=
  (by decide +kernel : ∀ t : Fin grid0.N, 17 ≤ t.val → cfg0.idle 7 (grid0.coords t) = false)

/-! ## What the buffers come to hold -/

/-- The three blocks of a point are quantised by the same function. -/
theorem pay11_eq : k0_pay11 (F := F) = k0_pay10 (F := F) := rfl
theorem pay7_eq (v0 : Vec F S128x2048 .f32) (v5 : Vec F S1x2048 .f32) (v9 : Vec F S2048x128 .bf16) (w : Vec F S32x3072 .f32) :
    k0_pay7 v0 v5 v9 w = k0_pay10 (k0_pay1 v0) (k0_pay2 v5) (k0_pay3 v9) w := rfl
theorem pay13_eq : k0_pay13 (F := F) = k0_pay12 (F := F) := rfl
theorem pay14_eq : k0_pay14 (F := F) = k0_pay12 (F := F) := rfl

/-- Grid point `n`. -/
def pt (n : ℕ) (h : n < 25) : Fin cfg0.N := ⟨n, lt_of_lt_of_eq h N_eq.symm⟩

/-- The quantised block `k` of 32 rows of the first weight matrix's block at point `t`. -/
def qs1 (c : Dev nD) (t : Fin cfg0.N) (k : ℕ) (hk : 32 * k + 32 ≤ 96) : Vec F S32x3072 .bf16 :=
  k0_pay10 (k0_pay1 (iblk m c 4 t)) (k0_pay2 (iblk m c 5 t)) (k0_pay3 (iblk m c 6 t))
    (Rows.band (n0 := 96) (n1 := 3072) 32 (32 * k) hk (iblk m c 0 t))

/-- The quantised block `k` of 128 rows of the second weight matrix's block at point `t`. -/
def qs2 (c : Dev nD) (t : Fin cfg0.N) (k : ℕ) (hk : 128 * k + 128 ≤ 384) : Vec F S128x768 .bf16 :=
  k0_pay12 (k0_pay1 (iblk m c 4 t)) (k0_pay2 (iblk m c 5 t)) (k0_pay3 (iblk m c 6 t))
    (Rows.band (n0 := 384) (n1 := 768) 128 (128 * k) hk (iblk m c 1 t))

/-- The first weight matrix, quantised. -/
def QW1 (c : Dev nD) : Vec F S768x3072 .bf16 := fun y =>
  have h := idx2_lt0 (n0 := 768) (n1 := 3072) y
  qs1 m c (pt (1 + (y 0).val / 96) (by omega)) ((y 0).val % 96 / 32) (by omega)
    (ix2 (n0 := 32) (n1 := 3072) ⟨(y 0).val % 32, Nat.mod_lt _ (by norm_num)⟩ (y 1))

/-- The second weight matrix, quantised. -/
def QW2 (c : Dev nD) : Vec F S3072x768 .bf16 := fun y =>
  have h := idx2_lt0 (n0 := 3072) (n1 := 768) y
  qs2 m c (pt (9 + (y 0).val / 384) (by omega)) ((y 0).val % 384 / 128) (by omega)
    (ix2 (n0 := 128) (n1 := 768) ⟨(y 0).val % 128, Nat.mod_lt _ (by norm_num)⟩ (y 1))

/-- The biases, quantised. -/
def QB1 (c : Dev nD) : Vec F S1x3072 .f32 :=
  k0_pay5 (iblk m c 4 (pt 0 (by norm_num))) (iblk m c 5 (pt 0 (by norm_num))) (iblk m c 6 (pt 0 (by norm_num))) (iblk m c 2 (pt 0 (by norm_num)))
def QB2 (c : Dev nD) : Vec F S1x768 .f32 :=
  k0_pay6 (iblk m c 4 (pt 0 (by norm_num))) (iblk m c 5 (pt 0 (by norm_num))) (iblk m c 6 (pt 0 (by norm_num))) (iblk m c 2 (pt 0 (by norm_num)))

/-- The hidden layer's 512 rows at point `t`, and all of its rows. -/
def hs (c : Dev nD) (t : Fin cfg0.N) : Vec F S512x3072 .bf16 := k0_pay8 (iblk m c 3 t) (QW1 m c) (QB1 m c)
def HH (c : Dev nD) : Vec F S4096x3072 .bf16 := fun y =>
  have h := idx2_lt0 (n0 := 4096) (n1 := 3072) y
  hs m c (pt (9 + (y 0).val / 512) (by omega)) (ix2 (n0 := 512) (n1 := 3072) ⟨(y 0).val % 512, Nat.mod_lt _ (by norm_num)⟩ (y 1))

/-- The result's 512 rows stored at point `t`. -/
def ys (c : Dev nD) (t : Fin cfg0.N) : Vec F S512x768 .f32 :=
  k0_pay9 (Rows.band (n0 := 4096) (n1 := 3072) 512 (512 * (t.val - 17)) (by have := lt_of_lt_of_eq t.isLt N_eq; omega) (HH m c)) (QW2 m c) (QB2 m c)

theorem QW1_at (c : Dev nD) (t : Fin cfg0.N) (h1 : 1 ≤ t.val) (k : ℕ) (hk : 32 * k + 32 ≤ 96) (r : Fin 32) (l : Fin 3072)
    (hr : 96 * (t.val - 1) + 32 * k + r.val < 768) :
    QW1 m c (ix2 ⟨96 * (t.val - 1) + 32 * k + r.val, hr⟩ l) = qs1 m c t k hk (ix2 r l) := by
  have aux : ∀ n k' p hn hk' hp, n = t.val → k' = k → p = r.val →
      qs1 m c (pt n hn) k' hk' (ix2 ⟨p, hp⟩ l) = qs1 m c t k hk (ix2 r l) := by
    rintro _ _ _ _ _ _ rfl rfl rfl; rfl
  have hr' := r.isLt
  exact aux _ _ _ _ _ _ (show 1 + (96 * (t.val - 1) + 32 * k + r.val) / 96 = t.val by omega)
    (show (96 * (t.val - 1) + 32 * k + r.val) % 96 / 32 = k by omega) (show (96 * (t.val - 1) + 32 * k + r.val) % 32 = r.val by omega)

theorem QW2_at (c : Dev nD) (t : Fin cfg0.N) (h1 : 9 ≤ t.val) (k : ℕ) (hk : 128 * k + 128 ≤ 384) (r : Fin 128) (l : Fin 768)
    (hr : 384 * (t.val - 9) + 128 * k + r.val < 3072) :
    QW2 m c (ix2 ⟨384 * (t.val - 9) + 128 * k + r.val, hr⟩ l) = qs2 m c t k hk (ix2 r l) := by
  have aux : ∀ n k' p hn hk' hp, n = t.val → k' = k → p = r.val →
      qs2 m c (pt n hn) k' hk' (ix2 ⟨p, hp⟩ l) = qs2 m c t k hk (ix2 r l) := by
    rintro _ _ _ _ _ _ rfl rfl rfl; rfl
  have hr' := r.isLt
  exact aux _ _ _ _ _ _ (show 9 + (384 * (t.val - 9) + 128 * k + r.val) / 384 = t.val by omega)
    (show (384 * (t.val - 9) + 128 * k + r.val) % 384 / 128 = k by omega) (show (384 * (t.val - 9) + 128 * k + r.val) % 128 = r.val by omega)

theorem HH_at (c : Dev nD) (t : Fin cfg0.N) (h1 : 9 ≤ t.val) (r : Fin 512) (l : Fin 3072) (hr : 512 * (t.val - 9) + r.val < 4096) :
    HH m c (ix2 ⟨512 * (t.val - 9) + r.val, hr⟩ l) = hs m c t (ix2 r l) := by
  have aux : ∀ n p hn hp, n = t.val → p = r.val → hs m c (pt n hn) (ix2 ⟨p, hp⟩ l) = hs m c t (ix2 r l) := by
    rintro _ _ _ _ rfl rfl; rfl
  have hr' := r.isLt
  exact aux _ _ _ _ (show 9 + (512 * (t.val - 9) + r.val) / 512 = t.val by omega)
    (show (512 * (t.val - 9) + r.val) % 512 = r.val by omega)

/-- What the five scratch buffers hold before point `n`: the quantised biases from point 1 on; of the quantised first
matrix the rows of the points before `n`; of the second matrix and of the hidden layer likewise. -/
structure Inv (c : Dev nD) (n : ℕ) (s9 : Vec F S768x3072 .bf16) (s10 : Vec F S3072x768 .bf16) (s11 : Vec F S1x3072 .f32)
    (s12 : Vec F S1x768 .f32) (s13 : Vec F S4096x3072 .bf16) : Prop where
  b1 : 1 ≤ n → s11 = QB1 m c
  b2 : 1 ≤ n → s12 = QB2 m c
  w1 : ∀ y : (⟨2, ![768, 3072]⟩ : Shape).Idx, (y 0).val < 96 * (n - 1) → s9 y = QW1 m c y
  w2 : ∀ y : (⟨2, ![3072, 768]⟩ : Shape).Idx, (y 0).val < 384 * (n - 9) → s10 y = QW2 m c y
  h : ∀ y : (⟨2, ![4096, 3072]⟩ : Shape).Idx, (y 0).val < 512 * (n - 9) → s13 y = HH m c y

/-! ## What each kind of point leaves -/

section Steps

variable (c : Dev nD) (t : Fin cfg0.N)

set_option maxHeartbeats 2000000 in
/-- Point 0 leaves the quantised biases. -/
theorem step_A (arg1 : Memref sig .tc .vmem S96x3072 .f32) (harg1 : arg1.IsWhole) (arg2 : Memref sig .tc .vmem S384x768 .f32) (harg2 : arg2.IsWhole) (arg3 : Memref sig .tc .vmem S30x128 .f32) (harg3 : arg3.IsWhole) (arg4 : Memref sig .tc .vmem S512x768 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S2048x128 .bf16) (harg7 : arg7.IsWhole) (arg8 : Memref sig .tc .vmem S512x768 .f32) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S1x3072 .f32) (harg11 : arg11.IsWhole) (arg12 : Memref sig .tc .vmem S1x768 .f32) (harg12 : arg12.IsWhole) (arg13 : Memref sig .tc .vmem S4096x3072 .bf16) (harg13 : arg13.IsWhole)
    (h0 h1 h2 h3) (s11 : Vec F S1x3072 .f32) (s12 : Vec F S1x768 .f32) (ht : t.val = 0) :
    arg11.view.read (Elt F) (arg11.view.writes (Elt F) (harg11.unread s11)
        (run_A c (grid0.coords t) arg1 harg1 arg2 harg2 arg3 harg3 arg4 harg4 arg5 harg5 arg6 harg6 arg7 harg7 arg8 harg8 arg9 harg9 arg10 harg10 arg11 harg11 arg12 harg12 arg13 harg13 h0 h1 h2 h3 (iblk m c 2 t) (iblk m c 4 t) (iblk m c 5 t) (iblk m c 6 t) s11 s12).1) = QB1 m c
    ∧ arg12.view.read (Elt F) (arg12.view.writes (Elt F) (harg12.unread s12)
        (run_A c (grid0.coords t) arg1 harg1 arg2 harg2 arg3 harg3 arg4 harg4 arg5 harg5 arg6 harg6 arg7 harg7 arg8 harg8 arg9 harg9 arg10 harg10 arg11 harg11 arg12 harg12 arg13 harg13 h0 h1 h2 h3 (iblk m c 2 t) (iblk m c 4 t) (iblk m c 5 t) (iblk m c 6 t) s11 s12).2.1) = QB2 m c := by
  obtain rfl : t = pt 0 (by norm_num) := Fin.ext ht
  unfold run_A
  dsimp only
  simp only [View.readAt_eq_ld, harg3.read_unread, harg5.read_unread, harg6.read_unread, harg7.read_unread, Rows.ld_whole]
  refine ⟨?_, ?_⟩
  · exact View.read_writes_full _ _ _ _ _
  · exact View.read_writes_full _ _ _ _ _

set_option maxHeartbeats 2000000 in
/-- A point of the first matrix's extends the quantised rows by its 96. -/
theorem step_B (arg1 : Memref sig .tc .vmem S96x3072 .f32) (harg1 : arg1.IsWhole) (arg2 : Memref sig .tc .vmem S384x768 .f32) (harg2 : arg2.IsWhole) (arg3 : Memref sig .tc .vmem S30x128 .f32) (harg3 : arg3.IsWhole) (arg4 : Memref sig .tc .vmem S512x768 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S2048x128 .bf16) (harg7 : arg7.IsWhole) (arg8 : Memref sig .tc .vmem S512x768 .f32) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S1x3072 .f32) (harg11 : arg11.IsWhole) (arg12 : Memref sig .tc .vmem S1x768 .f32) (harg12 : arg12.IsWhole) (arg13 : Memref sig .tc .vmem S4096x3072 .bf16) (harg13 : arg13.IsWhole)
    (h0 h1 h2 h3) (s9 : Vec F S768x3072 .bf16) (ht : 1 ≤ t.val) (ht' : t.val < 9)
    (hs : ∀ y : (⟨2, ![768, 3072]⟩ : Shape).Idx, (y 0).val < 96 * (t.val - 1) → s9 y = QW1 m c y) :
    ∀ y : (⟨2, ![768, 3072]⟩ : Shape).Idx, (y 0).val < 96 * t.val →
      arg9.view.read (Elt F) (arg9.view.writes (Elt F) (harg9.unread s9)
        (run_B c (grid0.coords t) arg1 harg1 arg2 harg2 arg3 harg3 arg4 harg4 arg5 harg5 arg6 harg6 arg7 harg7 arg8 harg8 arg9 harg9 arg10 harg10 arg11 harg11 arg12 harg12 arg13 harg13 h0 h1 h2 h3 (iblk m c 0 t) (iblk m c 4 t) (iblk m c 5 t) (iblk m c 6 t) s9).1) y = QW1 m c y := by
  unfold run_B
  dsimp only
  simp only [View.readAt_eq_ld, harg1.read_unread, harg5.read_unread, harg6.read_unread, harg7.read_unread, Rows.ld_whole,
    pay7_eq, pay11_eq]
  intro y hy
  refine Rows.extend (W := 32) (o := 96 * (t.val - 1) + 32 * 2) _ _ _ (off1_eq t 2 ht ht') _ _ (QW1 m c) ?_ ?_ y (by omega)
  · refine Rows.extend (W := 32) (o := 96 * (t.val - 1) + 32 * 1) _ _ _ (off1_eq t 1 ht ht') _ _ (QW1 m c) ?_ ?_
    · refine Rows.extend (W := 32) (o := 96 * (t.val - 1) + 32 * 0) _ _ _ (off1_eq t 0 ht ht') _ _ (QW1 m c) ?_ ?_
      · intro y hy
        exact (congrFun (harg9.read_unread s9) y).trans (hs y (by omega))
      · intro r l hr
        rw [QW1_at m c t ht 0 (by norm_num) r l hr]; unfold qs1
        exact congrArg (fun w => k0_pay10 _ _ _ w (ix2 r l)) (Rows.ld_band (n0 := 96) (n1 := 3072) (W := 32) (o := 32 * 0) (by norm_num) _ rfl _)
    · intro r l hr
      rw [QW1_at m c t ht 1 (by norm_num) r l hr]; unfold qs1
      exact congrArg (fun w => k0_pay10 _ _ _ w (ix2 r l)) (Rows.ld_band (n0 := 96) (n1 := 3072) (W := 32) (o := 32 * 1) (by norm_num) _ rfl _)
  · intro r l hr
    rw [QW1_at m c t ht 2 (by norm_num) r l hr]; unfold qs1
    exact congrArg (fun w => k0_pay10 _ _ _ w (ix2 r l)) (Rows.ld_band (n0 := 96) (n1 := 3072) (W := 32) (o := 32 * 2) (by norm_num) _ rfl _)

set_option maxHeartbeats 2000000 in
/-- A point of the second matrix's extends the quantised rows by its 384, -/
theorem step_C2 (arg1 : Memref sig .tc .vmem S96x3072 .f32) (harg1 : arg1.IsWhole) (arg2 : Memref sig .tc .vmem S384x768 .f32) (harg2 : arg2.IsWhole) (arg3 : Memref sig .tc .vmem S30x128 .f32) (harg3 : arg3.IsWhole) (arg4 : Memref sig .tc .vmem S512x768 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S2048x128 .bf16) (harg7 : arg7.IsWhole) (arg8 : Memref sig .tc .vmem S512x768 .f32) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S1x3072 .f32) (harg11 : arg11.IsWhole) (arg12 : Memref sig .tc .vmem S1x768 .f32) (harg12 : arg12.IsWhole) (arg13 : Memref sig .tc .vmem S4096x3072 .bf16) (harg13 : arg13.IsWhole)
    (h0 h1 h2 h3) (s9 : Vec F S768x3072 .bf16) (s10 : Vec F S3072x768 .bf16) (s11 : Vec F S1x3072 .f32) (s13 : Vec F S4096x3072 .bf16) (ht : 9 ≤ t.val) (ht' : t.val < 17)
    (hs : ∀ y : (⟨2, ![3072, 768]⟩ : Shape).Idx, (y 0).val < 384 * (t.val - 9) → s10 y = QW2 m c y) :
    ∀ y : (⟨2, ![3072, 768]⟩ : Shape).Idx, (y 0).val < 384 * (t.val - 8) →
      arg10.view.read (Elt F) (arg10.view.writes (Elt F) (harg10.unread s10)
        (run_C c (grid0.coords t) arg1 harg1 arg2 harg2 arg3 harg3 arg4 harg4 arg5 harg5 arg6 harg6 arg7 harg7 arg8 harg8 arg9 harg9 arg10 harg10 arg11 harg11 arg12 harg12 arg13 harg13 h0 h1 h2 h3 (iblk m c 1 t) (iblk m c 3 t) (iblk m c 4 t) (iblk m c 5 t) (iblk m c 6 t) s9 s10 s11 s13).1) y = QW2 m c y := by
  unfold run_C
  dsimp only
  simp only [View.readAt_eq_ld, harg2.read_unread, harg5.read_unread, harg6.read_unread, harg7.read_unread, Rows.ld_whole,
    pay13_eq, pay14_eq]
  intro y hy
  refine Rows.extend (W := 128) (o := 384 * (t.val - 9) + 128 * 2) _ _ _ (off2_eq t 2 ht ht') _ _ (QW2 m c) ?_ ?_ y (by omega)
  · refine Rows.extend (W := 128) (o := 384 * (t.val - 9) + 128 * 1) _ _ _ (off2_eq t 1 ht ht') _ _ (QW2 m c) ?_ ?_
    · refine Rows.extend (W := 128) (o := 384 * (t.val - 9) + 128 * 0) _ _ _ (off2_eq t 0 ht ht') _ _ (QW2 m c) ?_ ?_
      · intro y hy
        exact (congrFun (harg10.read_unread s10) y).trans (hs y (by omega))
      · intro r l hr
        rw [QW2_at m c t ht 0 (by norm_num) r l hr]; unfold qs2
        exact congrArg (fun w => k0_pay12 _ _ _ w (ix2 r l)) (Rows.ld_band (n0 := 384) (n1 := 768) (W := 128) (o := 128 * 0) (by norm_num) _ rfl _)
    · intro r l hr
      rw [QW2_at m c t ht 1 (by norm_num) r l hr]; unfold qs2
      exact congrArg (fun w => k0_pay12 _ _ _ w (ix2 r l)) (Rows.ld_band (n0 := 384) (n1 := 768) (W := 128) (o := 128 * 1) (by norm_num) _ rfl _)
  · intro r l hr
    rw [QW2_at m c t ht 2 (by norm_num) r l hr]; unfold qs2
    exact congrArg (fun w => k0_pay12 _ _ _ w (ix2 r l)) (Rows.ld_band (n0 := 384) (n1 := 768) (W := 128) (o := 128 * 2) (by norm_num) _ rfl _)

set_option maxHeartbeats 2000000 in
/-- and the hidden layer's rows by its 512, once the first matrix and its bias are quantised. -/
theorem step_Ch (arg1 : Memref sig .tc .vmem S96x3072 .f32) (harg1 : arg1.IsWhole) (arg2 : Memref sig .tc .vmem S384x768 .f32) (harg2 : arg2.IsWhole) (arg3 : Memref sig .tc .vmem S30x128 .f32) (harg3 : arg3.IsWhole) (arg4 : Memref sig .tc .vmem S512x768 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S2048x128 .bf16) (harg7 : arg7.IsWhole) (arg8 : Memref sig .tc .vmem S512x768 .f32) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S1x3072 .f32) (harg11 : arg11.IsWhole) (arg12 : Memref sig .tc .vmem S1x768 .f32) (harg12 : arg12.IsWhole) (arg13 : Memref sig .tc .vmem S4096x3072 .bf16) (harg13 : arg13.IsWhole)
    (h0 h1 h2 h3) (s10 : Vec F S3072x768 .bf16) (s13 : Vec F S4096x3072 .bf16) (ht : 9 ≤ t.val) (ht' : t.val < 17)
    (hs : ∀ y : (⟨2, ![4096, 3072]⟩ : Shape).Idx, (y 0).val < 512 * (t.val - 9) → s13 y = HH m c y) :
    ∀ y : (⟨2, ![4096, 3072]⟩ : Shape).Idx, (y 0).val < 512 * (t.val - 8) →
      arg13.view.read (Elt F) (arg13.view.writes (Elt F) (harg13.unread s13)
        (run_C c (grid0.coords t) arg1 harg1 arg2 harg2 arg3 harg3 arg4 harg4 arg5 harg5 arg6 harg6 arg7 harg7 arg8 harg8 arg9 harg9 arg10 harg10 arg11 harg11 arg12 harg12 arg13 harg13 h0 h1 h2 h3 (iblk m c 1 t) (iblk m c 3 t) (iblk m c 4 t) (iblk m c 5 t) (iblk m c 6 t) (QW1 m c) s10 (QB1 m c) s13).2.1) y = HH m c y := by
  unfold run_C
  dsimp only
  simp only [View.readAt_eq_ld, harg4.read_unread, harg9.read_unread, harg11.read_unread, Rows.ld_whole]
  intro y hy
  refine Rows.extend (W := 512) (o := 512 * (t.val - 9)) _ _ _ (off3_eq t ht ht') _ _ (HH m c) ?_ ?_ y (by omega)
  · intro y hy
    exact (congrFun (harg13.read_unread s13) y).trans (hs y (by omega))
  · intro r l hr
    rw [HH_at m c t ht r l hr]
    rfl

set_option maxHeartbeats 2000000 in
/-- A point of the result's leaves its 512 rows. -/
theorem step_D (arg1 : Memref sig .tc .vmem S96x3072 .f32) (harg1 : arg1.IsWhole) (arg2 : Memref sig .tc .vmem S384x768 .f32) (harg2 : arg2.IsWhole) (arg3 : Memref sig .tc .vmem S30x128 .f32) (harg3 : arg3.IsWhole) (arg4 : Memref sig .tc .vmem S512x768 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S2048x128 .bf16) (harg7 : arg7.IsWhole) (arg8 : Memref sig .tc .vmem S512x768 .f32) (harg8 : arg8.IsWhole) (arg9 : Memref sig .tc .vmem S768x3072 .bf16) (harg9 : arg9.IsWhole) (arg10 : Memref sig .tc .vmem S3072x768 .bf16) (harg10 : arg10.IsWhole) (arg11 : Memref sig .tc .vmem S1x3072 .f32) (harg11 : arg11.IsWhole) (arg12 : Memref sig .tc .vmem S1x768 .f32) (harg12 : arg12.IsWhole) (arg13 : Memref sig .tc .vmem S4096x3072 .bf16) (harg13 : arg13.IsWhole)
    (h0 h1 h2 h3) (x8 : Vec F S512x768 .f32) (ht : 17 ≤ t.val) :
      arg8.view.read (Elt F) (arg8.view.writes (Elt F) (harg8.unread x8)
        (run_D c (grid0.coords t) arg1 harg1 arg2 harg2 arg3 harg3 arg4 harg4 arg5 harg5 arg6 harg6 arg7 harg7 arg8 harg8 arg9 harg9 arg10 harg10 arg11 harg11 arg12 harg12 arg13 harg13 h0 h1 h2 h3 (iblk m c 4 t) (iblk m c 5 t) (iblk m c 6 t) x8 (QW2 m c) (QB2 m c) (HH m c)).1) = ys m c t := by
  unfold run_D
  dsimp only
  simp only [View.readAt_eq_ld, harg10.read_unread, harg12.read_unread, harg13.read_unread, Rows.ld_whole]
  refine (View.read_writes_full _ _ _ _ _).trans ?_
  exact congrArg (fun w => k0_pay9 w _ _) (Rows.ld_band (n0 := 4096) (n1 := 3072) (W := 512) (o := 512 * (t.val - 17)) _ _ (off4_eq t ht) _)

end Steps

end Cert.KernelIdeal.Hand

end
-- ==== Proof.KernelIdeal.State.lean ====
/- The body's obligation at every grid point, the run, and the frame. -/
module

public import proofs.«01_k».proof.Proof.KernelIdeal.Steps
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- The staging buffer of window 0 at a point, and that it is a whole buffer. -/
abbrev ms0 (t : Fin cfg0.N) : Memref sig .tc .vmem S96x3072 .f32 := win0_0.stage (cfg0.slots t 0)
abbrev hs0 (t : Fin cfg0.N) : (ms0 t).IsWhole := hstage0_0 ((cfg0.slots t 0).cast nbuf0_0)
/-- The staging buffer of window 1 at a point, and that it is a whole buffer. -/
abbrev ms1 (t : Fin cfg0.N) : Memref sig .tc .vmem S384x768 .f32 := win0_1.stage (cfg0.slots t 1)
abbrev hs1 (t : Fin cfg0.N) : (ms1 t).IsWhole := hstage0_1 ((cfg0.slots t 1).cast nbuf0_1)
/-- The staging buffer of window 2 at a point, and that it is a whole buffer. -/
abbrev ms2 (t : Fin cfg0.N) : Memref sig .tc .vmem S30x128 .f32 := win0_2.stage (cfg0.slots t 2)
abbrev hs2 (t : Fin cfg0.N) : (ms2 t).IsWhole := hstage0_2 ((cfg0.slots t 2).cast nbuf0_2)
/-- The staging buffer of window 3 at a point, and that it is a whole buffer. -/
abbrev ms3 (t : Fin cfg0.N) : Memref sig .tc .vmem S512x768 .f32 := win0_3.stage (cfg0.slots t 3)
abbrev hs3 (t : Fin cfg0.N) : (ms3 t).IsWhole := hstage0_3 ((cfg0.slots t 3).cast nbuf0_3)
/-- The staging buffer of window 4 at a point, and that it is a whole buffer. -/
abbrev ms4 (t : Fin cfg0.N) : Memref sig .tc .vmem S128x2048 .f32 := win0_4.stage (cfg0.slots t 4)
abbrev hs4 (t : Fin cfg0.N) : (ms4 t).IsWhole := hstage0_4 ((cfg0.slots t 4).cast nbuf0_4)
/-- The staging buffer of window 5 at a point, and that it is a whole buffer. -/
abbrev ms5 (t : Fin cfg0.N) : Memref sig .tc .vmem S1x2048 .f32 := win0_5.stage (cfg0.slots t 5)
abbrev hs5 (t : Fin cfg0.N) : (ms5 t).IsWhole := hstage0_5 ((cfg0.slots t 5).cast nbuf0_5)
/-- The staging buffer of window 6 at a point, and that it is a whole buffer. -/
abbrev ms6 (t : Fin cfg0.N) : Memref sig .tc .vmem S2048x128 .bf16 := win0_6.stage (cfg0.slots t 6)
abbrev hs6 (t : Fin cfg0.N) : (ms6 t).IsWhole := hstage0_6 ((cfg0.slots t 6).cast nbuf0_6)
/-- The staging buffer of window 7 at a point, and that it is a whole buffer. -/
abbrev ms7 (t : Fin cfg0.N) : Memref sig .tc .vmem S512x768 .f32 := win0_7.stage (cfg0.slots t 7)
abbrev hs7 (t : Fin cfg0.N) : (ms7 t).IsWhole := hstage0_7 ((cfg0.slots t 7).cast nbuf0_7)

/-- The scratch buffers, whole. -/
abbrev sc0 : Memref sig .tc .vmem S768x3072 .bf16 := Memref.whole cc0_scratch0
abbrev sc1 : Memref sig .tc .vmem S3072x768 .bf16 := Memref.whole cc0_scratch1
abbrev sc2 : Memref sig .tc .vmem S1x3072 .f32 := Memref.whole cc0_scratch2
abbrev sc3 : Memref sig .tc .vmem S1x768 .f32 := Memref.whole cc0_scratch3
abbrev sc4 : Memref sig .tc .vmem S4096x3072 .bf16 := Memref.whole cc0_scratch4

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- The invariant before point `n`: the scratch buffers at contents as `Inv` says, and the generator's register at anything. -/
def PhiS (c : Dev nD) (n : ℕ) : sProp 𝕄 :=
  iprop(∃ s9 s10 s11 s12 s13, ⌜Inv m c n s9 s10 s11 s12 s13⌝
    ∗ owns (c : Thread nD τ) sc0 fullShare s9 ∗ owns (c : Thread nD τ) sc1 fullShare s10 ∗ owns (c : Thread nD τ) sc2 fullShare s11
    ∗ owns (c : Thread nD τ) sc3 fullShare s12 ∗ owns (c : Thread nD τ) sc4 fullShare s13 ∗ (∃ r, prngReg c r))

/-- The proof data: the arrays as the launch finds them; each input's buffer at its block; the result's at its rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => ys m c t
  Φ t := PhiS m c t.val
  q _ := fullShare
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d
theorem before3 (c : Dev nD) (t : Fin cfg0.N) (d) : (dats m 0 c).before 3 t d = iblk m c 3 t :=
  before0_3_of m (dats m 0 c) (A_eq m c 3) (fun t => by dsimp only [dats]) t d
theorem before4 (c : Dev nD) (t : Fin cfg0.N) (d) : (dats m 0 c).before 4 t d = iblk m c 4 t :=
  before0_4_of m (dats m 0 c) (A_eq m c 4) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d
theorem before6 (c : Dev nD) (t : Fin cfg0.N) (d) : (dats m 0 c).before 6 t d = iblk m c 6 t :=
  before0_6_of m (dats m 0 c) (A_eq m c 6) (fun t => by dsimp only [dats]) t d

theorem leaves0 (c : Dev nD) (t : Fin cfg0.N) :
    (dats m 0 c).leavesExact 0 t = owns (c : Thread nD τ) (ms0 t) fullShare (iblk m c 0 t) := by
  unfold Dat.leavesExact; rw [show cfg0.idle 0 (grid0.coords t) = false from rfl]; dsimp only [dats]
theorem leaves1 (c : Dev nD) (t : Fin cfg0.N) :
    (dats m 0 c).leavesExact 1 t = owns (c : Thread nD τ) (ms1 t) fullShare (iblk m c 1 t) := by
  unfold Dat.leavesExact; rw [show cfg0.idle 1 (grid0.coords t) = false from rfl]; dsimp only [dats]
theorem leaves2 (c : Dev nD) (t : Fin cfg0.N) :
    (dats m 0 c).leavesExact 2 t = owns (c : Thread nD τ) (ms2 t) fullShare (iblk m c 2 t) := by
  unfold Dat.leavesExact; rw [show cfg0.idle 2 (grid0.coords t) = false from rfl]; dsimp only [dats]
theorem leaves3 (c : Dev nD) (t : Fin cfg0.N) :
    (dats m 0 c).leavesExact 3 t = owns (c : Thread nD τ) (ms3 t) fullShare (iblk m c 3 t) := by
  unfold Dat.leavesExact; rw [show cfg0.idle 3 (grid0.coords t) = false from rfl]; dsimp only [dats]
theorem leaves4 (c : Dev nD) (t : Fin cfg0.N) :
    (dats m 0 c).leavesExact 4 t = owns (c : Thread nD τ) (ms4 t) fullShare (iblk m c 4 t) := by
  unfold Dat.leavesExact; rw [show cfg0.idle 4 (grid0.coords t) = false from rfl]; dsimp only [dats]
theorem leaves5 (c : Dev nD) (t : Fin cfg0.N) :
    (dats m 0 c).leavesExact 5 t = owns (c : Thread nD τ) (ms5 t) fullShare (iblk m c 5 t) := by
  unfold Dat.leavesExact; rw [show cfg0.idle 5 (grid0.coords t) = false from rfl]; dsimp only [dats]
theorem leaves6 (c : Dev nD) (t : Fin cfg0.N) :
    (dats m 0 c).leavesExact 6 t = owns (c : Thread nD τ) (ms6 t) fullShare (iblk m c 6 t) := by
  unfold Dat.leavesExact; rw [show cfg0.idle 6 (grid0.coords t) = false from rfl]; dsimp only [dats]

theorem leaves7_idle (c : Dev nD) (t : Fin cfg0.N) (ht : t.val < 17) :
    (dats m 0 c).leavesExact 7 t = iprop(∃ d, owns (c : Thread nD τ) (ms7 t) fullShare ((dats m 0 c).before 7 t d)) :=
  Dat.leavesExact_idle (dats m 0 c) 7 t (idle7 t ht) (noFlush7 t ht)

theorem leaves7_live (c : Dev nD) (t : Fin cfg0.N) (ht : 17 ≤ t.val) :
    (dats m 0 c).leavesExact 7 t = owns (c : Thread nD τ) (ms7 t) fullShare (ys m c t) := by
  unfold Dat.leavesExact; rw [live7 t ht]; dsimp only [dats]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

set_option maxHeartbeats 4000000 in
/-- The body at a point of kind A. -/
theorem sound_A (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, leaves0, leaves1, leaves2, leaves3, leaves4, leaves5, leaves6]
  rw [leaves7_idle m c t (by omega)]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  iintro ⟨⟨%s9, %s10, %s11, %s12, %s13, %hI, H9, H10, H11, H12, H13, Hg⟩, Ho, ⟨%d0, H1⟩, ⟨%d1, H2⟩, ⟨%d2, H3⟩, ⟨%d3, H4⟩, ⟨%d4, H5⟩, ⟨%d5, H6⟩, ⟨%d6, H7⟩, ⟨%d7, H8⟩⟩
  iapply (run_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) ((cond1_iff t).mpr ht) (fun h => absurd ((cond2_iff t).mp h) (by omega)) (fun h => absurd ((cond3_iff t).mp h) (by omega)) (fun h => absurd ((cond4_iff t).mp h) (by omega)) (iblk m c 2 t) (iblk m c 4 t) (iblk m c 5 t) (iblk m c 6 t) s11 s12).2.2 Set.univ _
  isplitl [H3]; · iexact H3
  isplitl [H5]; · iexact H5
  isplitl [H6]; · iexact H6
  isplitl [H7]; · iexact H7
  isplitl [H11]; · iexact H11
  isplitl [H12]; · iexact H12
  iintro ⟨H3, H5, H6, H7, H11, H12⟩
  isplitl [H9 H10 H11 H12 H13 Hg]
  · iexists s9; iexists s10; iexists _; iexists _; iexists s13
    isplitr
    swap
    · isplitl [H9]; · iexact H9
      isplitl [H10]; · iexact H10
      isplitl [H11]
      · unfold owns; iexists _; isplitr
        swap; · iexact H11
        ipureintro; rfl
      isplitl [H12]
      · unfold owns; iexists _; isplitr
        swap; · iexact H12
        ipureintro; rfl
      isplitl [H13]; · iexact H13
      iexact Hg
    · ipureintro
      have hA := step_A m c t (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) ((cond1_iff t).mpr ht) (fun h => absurd ((cond2_iff t).mp h) (by omega)) (fun h => absurd ((cond3_iff t).mp h) (by omega)) (fun h => absurd ((cond4_iff t).mp h) (by omega)) s11 s12 ht
      exact ⟨fun _ => hA.1, fun _ => hA.2, fun y hy => absurd hy (by omega), fun y hy => absurd hy (by omega), fun y hy => absurd hy (by omega)⟩
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d7; iexact H8

set_option maxHeartbeats 4000000 in
/-- The body at a point of kind B. -/
theorem sound_B (c : Dev nD) (t : Fin cfg0.N) (ht : 1 ≤ t.val ∧ t.val < 9) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, leaves0, leaves1, leaves2, leaves3, leaves4, leaves5, leaves6]
  rw [leaves7_idle m c t (by omega)]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  iintro ⟨⟨%s9, %s10, %s11, %s12, %s13, %hI, H9, H10, H11, H12, H13, Hg⟩, Ho, ⟨%d0, H1⟩, ⟨%d1, H2⟩, ⟨%d2, H3⟩, ⟨%d3, H4⟩, ⟨%d4, H5⟩, ⟨%d5, H6⟩, ⟨%d6, H7⟩, ⟨%d7, H8⟩⟩
  iapply (run_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => absurd ((cond1_iff t).mp h) (by omega)) ((cond2_iff t).mpr ht) (fun h => absurd ((cond3_iff t).mp h) (by omega)) (fun h => absurd ((cond4_iff t).mp h) (by omega)) (iblk m c 0 t) (iblk m c 4 t) (iblk m c 5 t) (iblk m c 6 t) s9).2 Set.univ _
  isplitl [H1]; · iexact H1
  isplitl [H5]; · iexact H5
  isplitl [H6]; · iexact H6
  isplitl [H7]; · iexact H7
  isplitl [H9]; · iexact H9
  iintro ⟨H1, H5, H6, H7, H9⟩
  isplitl [H9 H10 H11 H12 H13 Hg]
  · iexists _; iexists s10; iexists s11; iexists s12; iexists s13
    isplitr
    swap
    · isplitl [H9]
      · unfold owns; iexists _; isplitr
        swap; · iexact H9
        ipureintro; rfl
      isplitl [H10]; · iexact H10
      isplitl [H11]; · iexact H11
      isplitl [H12]; · iexact H12
      isplitl [H13]; · iexact H13
      iexact Hg
    · ipureintro
      exact ⟨fun _ => hI.b1 ht.1, fun _ => hI.b2 ht.1, fun y hy => step_B m c t (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) _ _ _ _ s9 ht.1 ht.2 hI.w1 y (by omega),
        fun y hy => absurd hy (by omega), fun y hy => absurd hy (by omega)⟩
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d7; iexact H8

set_option maxHeartbeats 4000000 in
/-- The body at a point of kind C. -/
theorem sound_C (c : Dev nD) (t : Fin cfg0.N) (ht : 9 ≤ t.val ∧ t.val < 17) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, leaves0, leaves1, leaves2, leaves3, leaves4, leaves5, leaves6]
  rw [leaves7_idle m c t (by omega)]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  iintro ⟨⟨%s9, %s10, %s11, %s12, %s13, %hI, H9, H10, H11, H12, H13, Hg⟩, Ho, ⟨%d0, H1⟩, ⟨%d1, H2⟩, ⟨%d2, H3⟩, ⟨%d3, H4⟩, ⟨%d4, H5⟩, ⟨%d5, H6⟩, ⟨%d6, H7⟩, ⟨%d7, H8⟩⟩
  obtain rfl : s9 = QW1 m c := funext fun y => hI.w1 y (by have := idx2_lt0 (n0 := 768) (n1 := 3072) y; omega)
  obtain rfl : s11 = QB1 m c := hI.b1 (by omega)
  iapply (run_C c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => absurd ((cond1_iff t).mp h) (by omega)) (fun h => absurd ((cond2_iff t).mp h) (by omega)) ((cond3_iff t).mpr ht) (fun h => absurd ((cond4_iff t).mp h) (by omega)) (iblk m c 1 t) (iblk m c 3 t) (iblk m c 4 t) (iblk m c 5 t) (iblk m c 6 t) (QW1 m c) s10 (QB1 m c) s13).2.2 Set.univ _
  isplitl [H2]; · iexact H2
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H13]; · iexact H13
  iintro ⟨H2, H4, H5, H6, H7, H9, H10, H11, H13⟩
  isplitl [H9 H10 H11 H12 H13 Hg]
  · iexists (QW1 m c); iexists _; iexists (QB1 m c); iexists s12; iexists _
    isplitr
    swap
    · isplitl [H9]; · iexact H9
      isplitl [H10]
      · unfold owns; iexists _; isplitr
        swap; · iexact H10
        ipureintro; rfl
      isplitl [H11]; · iexact H11
      isplitl [H12]; · iexact H12
      isplitl [H13]
      · unfold owns; iexists _; isplitr
        swap; · iexact H13
        ipureintro; rfl
      iexact Hg
    · ipureintro
      exact ⟨fun _ => rfl, fun _ => hI.b2 (by omega), fun y _ => rfl,
        fun y hy => step_C2 m c t (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) _ _ _ _ _ s10 _ s13 ht.1 ht.2 hI.w2 y (by omega),
        fun y hy => step_Ch m c t (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) _ _ _ _ s10 s13 ht.1 ht.2 hI.h y (by omega)⟩
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d7; iexact H8

set_option maxHeartbeats 4000000 in
/-- The body at a point of kind D. -/
theorem sound_D (c : Dev nD) (t : Fin cfg0.N) (ht : 17 ≤ t.val) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, leaves0, leaves1, leaves2, leaves3, leaves4, leaves5, leaves6]
  rw [leaves7_live m c t ht]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  iintro ⟨⟨%s9, %s10, %s11, %s12, %s13, %hI, H9, H10, H11, H12, H13, Hg⟩, Ho, ⟨%d0, H1⟩, ⟨%d1, H2⟩, ⟨%d2, H3⟩, ⟨%d3, H4⟩, ⟨%d4, H5⟩, ⟨%d5, H6⟩, ⟨%d6, H7⟩, ⟨%d7, H8⟩⟩
  have hN := lt_of_lt_of_eq t.isLt N_eq
  obtain rfl : s10 = QW2 m c := funext fun y => hI.w2 y (by have := idx2_lt0 (n0 := 3072) (n1 := 768) y; omega)
  obtain rfl : s12 = QB2 m c := hI.b2 (by omega)
  obtain rfl : s13 = HH m c := funext fun y => hI.h y (by have := idx2_lt0 (n0 := 4096) (n1 := 3072) y; omega)
  iapply (run_D c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) (fun h => absurd ((cond1_iff t).mp h) (by omega)) (fun h => absurd ((cond2_iff t).mp h) (by omega)) (fun h => absurd ((cond3_iff t).mp h) (by omega)) ((cond4_iff t).mpr ht) (iblk m c 4 t) (iblk m c 5 t) (iblk m c 6 t) ((dats m 0 c).before 7 t d7) (QW2 m c) (QB2 m c) (HH m c)).2 Set.univ _
  isplitl [H5]; · iexact H5
  isplitl [H6]; · iexact H6
  isplitl [H7]; · iexact H7
  isplitl [H8]; · iexact H8
  isplitl [H10]; · iexact H10
  isplitl [H12]; · iexact H12
  isplitl [H13]; · iexact H13
  iintro ⟨H5, H6, H7, H8, H10, H12, H13⟩
  isplitl [H9 H10 H11 H12 H13 Hg]
  · iexists s9; iexists (QW2 m c); iexists s11; iexists (QB2 m c); iexists (HH m c)
    isplitr
    swap
    · isplitl [H9]; · iexact H9
      isplitl [H10]; · iexact H10
      isplitl [H11]; · iexact H11
      isplitl [H12]; · iexact H12
      isplitl [H13]; · iexact H13
      iexact Hg
    · ipureintro
      exact ⟨fun _ => hI.b1 (by omega), fun _ => rfl,
        fun y hy => hI.w1 y (by have := idx2_lt0 (n0 := 768) (n1 := 3072) y; omega), fun y _ => rfl, fun y _ => rfl⟩
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro
  exact step_D m c t (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) _ _ _ _ _ ht

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hA : t.val = 0
  · exact sound_A m c t hA
  by_cases hB : t.val < 9
  · exact sound_B m c t ⟨by omega, hB⟩
  by_cases hC : t.val < 17
  · exact sound_C m c t ⟨by omega, hC⟩
  exact sound_D m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands the region the invariant before point 0, -/
theorem hin (c : Dev nD) : Pipeline.ΦA spec0 c ⊢ (dats m 0 c).Φ 0 := by
  rw [show (dats m 0 c).Φ 0 = PhiS m c 0 from rfl, PhiA_eq]
  unfold PhiS
  iintro ⟨⟨⟨%s9, H9⟩, ⟨%s10, H10⟩, ⟨%s11, H11⟩, ⟨%s12, H12⟩, ⟨%s13, H13⟩⟩, Hg⟩
  iexists s9; iexists s10; iexists s11; iexists s12; iexists s13
  isplitr
  · ipureintro
    exact ⟨fun h => absurd h (by omega), fun h => absurd h (by omega), fun y hy => absurd hy (by omega), fun y hy => absurd hy (by omega), fun y hy => absurd hy (by omega)⟩
  isplitl [H9]; · iexact H9
  isplitl [H10]; · iexact H10
  isplitl [H11]; · iexact H11
  isplitl [H12]; · iexact H12
  isplitl [H13]; · iexact H13
  iexact Hg

/-- and takes it back after the last point, the scratch buffers' contents forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨%s9, %s10, %s11, %s12, %s13, %hI, H9, H10, H11, H12, H13, Hg⟩
  isplitl [H9 H10 H11 H12 H13]
  · isplitl [H9]; · iexists s9; iexact H9
    isplitl [H10]; · iexists s10; iexact H10
    isplitl [H11]; · iexists s11; iexact H11
    isplitl [H12]; · iexists s12; iexact H12
    iexists s13; iexact H13
  iexact Hg

set_option backward.isDefEq.respectTransparency.types false in
/-- The program runs: every execution ends, with each array of the launch at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the arguments are unchanged, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Frames.lean ====
/- The frames of the three programs and the rewritten constants. -/
module

public import proofs.«01_k».proof.Defs
public import proofs.«01_k».proof.Proof.Kernel.State
public import proofs.«01_k».proof.Proof.KernelIdeal.State
public import proofs.«01_k».proof.Proof.Gen.ReferenceIdeal.Run

@[expose] public section

noncomputable section

namespace Cert.Frames

open Idealize.ShloMosaic Idealize.SL.Sem

/-- The kernel as printed. -/
theorem kernel : Cert.quiescent_Kernel (hKernel := Cert.Kernel.Gen.facts) := fun m ρ _ =>
  Cert.Kernel.Hand.frame (F := Bits) m ρ

/-- The idealized kernel. -/
theorem kernelIdeal : Cert.quiescent_KernelIdeal (hKernelIdeal := Cert.KernelIdeal.Gen.facts) := fun m ρ _ =>
  Cert.KernelIdeal.Hand.frame (F := Ideal) m ρ

/-- The reference: no operation of it writes an argument, and it declares no semaphore. -/
theorem referenceIdeal : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two constants are the roundings of the numbers they are named for. -/
theorem preserves : Cert.preserves_Kernel_KernelIdeal :=
  ⟨IdealRules.named_const.statement Cert.KernelIdeal.κ "two_log2e" .f32 0x4038AA3B#32 ((2 * (Real.log 2)⁻¹ : ℝ) : EReal) rfl,
    IdealRules.named_const.statement Cert.KernelIdeal.κ "log2e" .f32 0x3FB8AA3B#32 (((Real.log 2)⁻¹ : ℝ) : EReal) rfl⟩

end Cert.Frames

end
-- ==== Proof.Quant.lean ====
/- Soft quantisation of a group of 32 numbers against 512 codewords, over the real numbers, and the two ways in which the
programs compute it: as a softmax over the distances, and on four groups at a time with a power of two and no maximum. -/
module

public import Idealize.ShloMosaic.PureOps.Ideal
public import Mathlib.Analysis.SpecialFunctions.Pow.Real

@[expose] public section

noncomputable section

namespace Cert.Quant

open Idealize.ShloMosaic

/-- The weight of codeword `k` for the group `γ`, up to a factor that is the same for all codewords. -/
def weight (γ : Fin 32 → ℝ) (c : Fin 512 → Fin 32 → ℝ) (k : Fin 512) : ℝ :=
  Real.exp (2 * ∑ j, γ j * c k j - ∑ j, c k j * c k j)

/-- The quantised group: the codewords' weighted mean. -/
def recon (γ : Fin 32 → ℝ) (c : Fin 512 → Fin 32 → ℝ) (d : Fin 32) : ℝ :=
  (∑ k, weight γ c k * c k d) / ∑ k, weight γ c k

/-- A sum of real numbers is the same taken among the extended ones. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The largest of some real numbers, at least one, is a real number. -/
theorem fold_max_real {ι : Type*} (s : Finset ι) (hs : s.Nonempty) (f : ι → ℝ) :
    ∃ M : ℝ, Finset.fold max (⊥ : EReal) (fun i => (f i : EReal)) s = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

/-- A quotient of real numbers whose denominator is not zero. -/
theorem div_coe (x y : ℝ) (hy : y ≠ 0) : Ideal.div (x : EReal) (y : EReal) = ((x / y : ℝ) : EReal) := by
  have : (y : EReal) ≠ 0 := by exact_mod_cast hy
  rw [Ideal.div, if_neg this, ← EReal.coe_inv, ← EReal.coe_mul, div_eq_mul_inv]

theorem sum_weight_pos (γ : Fin 32 → ℝ) (c : Fin 512 → Fin 32 → ℝ) : 0 < ∑ k, weight γ c k :=
  Finset.sum_pos (fun _ _ => Real.exp_pos _) Finset.univ_nonempty

/-! ### The softmax over the distances -/

/-- The negated distance of a group to codeword `k`. -/
def logit (g : Fin 32 → EReal) (C : Fin 512 → Fin 32 → EReal) (k : Fin 512) : EReal :=
  Ideal.ofBits .f32 0xBF800000#32 * (∑ j, g j * g j - Ideal.ofBits .f32 0x40000000#32 * ∑ j, g j * C k j + ∑ j, C k j * C k j)

/-- The weight of codeword `k` before the division: the largest logit is subtracted first. -/
def shifted (g : Fin 32 → EReal) (C : Fin 512 → Fin 32 → EReal) (k : Fin 512) : EReal :=
  Ideal.exp (logit g C k - max (Ideal.ofBits .f32 0xFF800000#32)
    (Finset.fold max (Ideal.ofBits .f32 0xFF800000#32) (fun k => logit g C k) Finset.univ))

/-- The group quantised by a softmax over the distances. -/
def soft (g : Fin 32 → EReal) (C : Fin 512 → Fin 32 → EReal) (d : Fin 32) : EReal :=
  ∑ k, Ideal.div (shifted g C k) (∑ k, shifted g C k) * C k d

theorem bits_neg_one : Ideal.ofBits .f32 0xBF800000#32 = ((-1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_bot : Ideal.ofBits .f32 0xFF800000#32 = (⊥ : EReal) := by
  simp [Ideal.ofBits, Ideal.ieee]

/-- Of real numbers, the softmax over the distances is the weighted mean: neither the group's own length nor the largest
logit matters to it. -/
theorem soft_real (γ : Fin 32 → ℝ) (c : Fin 512 → Fin 32 → ℝ) (d : Fin 32) :
    soft (fun j => (γ j : EReal)) (fun k j => (c k j : EReal)) d = (recon γ c d : EReal) := by
  have hl : ∀ k, logit (fun j => (γ j : EReal)) (fun k j => (c k j : EReal)) k
      = (((2 * ∑ j, γ j * c k j - ∑ j, c k j * c k j) - ∑ j, γ j * γ j : ℝ) : EReal) := by
    intro k
    rw [logit, bits_neg_one, bits_two]
    simp only [← EReal.coe_mul, coe_sum, ← EReal.coe_sub, ← EReal.coe_add]
    congr 1; ring
  obtain ⟨M, hM⟩ := fold_max_real Finset.univ Finset.univ_nonempty
    (fun k : Fin 512 => (2 * ∑ j, γ j * c k j - ∑ j, c k j * c k j) - ∑ j, γ j * γ j)
  have hs : ∀ k, shifted (fun j => (γ j : EReal)) (fun k j => (c k j : EReal)) k
      = ((weight γ c k * Real.exp (-(∑ j, γ j * γ j) - M) : ℝ) : EReal) := by
    intro k
    rw [shifted, bits_bot]
    simp only [hl]
    rw [hM, max_eq_right bot_le, ← EReal.coe_sub, weight, ← Real.exp_add]
    show ((Real.exp _ : ℝ) : EReal) = _
    congr 2; ring
  have hpos := sum_weight_pos γ c
  have hne : (∑ k, weight γ c k) * Real.exp (-(∑ j, γ j * γ j) - M) ≠ 0 := (mul_pos hpos (Real.exp_pos _)).ne'
  simp only [soft, hs, coe_sum, ← Finset.sum_mul]
  simp only [div_coe _ _ hne, ← EReal.coe_mul, coe_sum]
  congr 1
  rw [recon, Finset.sum_div]
  refine Finset.sum_congr rfl fun k _ => ?_
  rw [mul_div_mul_right _ _ (Real.exp_pos _).ne', div_mul_eq_mul_div]

/-! ### Four groups at a time -/

/-- A sum over `P` blocks of `N` whose terms vanish outside block `p` is the sum over that block. -/
theorem sum_block {α : Type*} [AddCommMonoid α] (P N : ℕ) (f : Fin (P * N) → α) (p : Fin P)
    (h : ∀ i : Fin (P * N), i.val / N ≠ p.val → f i = 0) :
    ∑ i, f i = ∑ k : Fin N, f ⟨N * p.val + k.val, by
      have := p.isLt; have := k.isLt; calc N * p.val + k.val < N * p.val + N := by omega
        _ = N * (p.val + 1) := by ring
        _ ≤ N * P := Nat.mul_le_mul_left _ (by omega)
        _ = P * N := by ring⟩ := by
  rw [← finProdFinEquiv.sum_comp, Fintype.sum_prod_type, Finset.sum_eq_single p]
  · refine Finset.sum_congr rfl fun k _ => congrArg f (Fin.ext ?_)
    simp [finProdFinEquiv]; ring
  · intro q _ hq
    refine Finset.sum_eq_zero fun k _ => h _ ?_
    have hk := k.isLt
    have : (finProdFinEquiv (q, k)).val = k.val + N * q.val := by simp [finProdFinEquiv]
    rw [this, Nat.add_mul_div_left _ _ (by omega), Nat.div_eq_of_lt hk, Nat.zero_add]
    exact fun he => hq (Fin.ext he)
  · exact fun hp => absurd (Finset.mem_univ p) hp

/-- The weight that lane `κ` of 2048 holds for a row `w` of four groups: `A` is the scaled codebook, `s` the codewords'
squared lengths, `t` and `u` the two constants. -/
def lane (t u : EReal) (w : Fin 128 → EReal) (A : Fin 128 → Fin 2048 → EReal) (s : Fin 2048 → EReal) (κ : Fin 2048) : EReal :=
  Ideal.exp2 (∑ j, w j * (t * A j κ) - u * s κ)

/-- The sum of the lanes of the group in which column `col` lies, picked by three comparisons. -/
def total (e : Fin 2048 → EReal) (col : ℕ) : EReal :=
  if col < 32 then ∑ x : Fin 512, e ⟨x.val, by omega⟩
  else if col - 32 < 32 then ∑ x : Fin 512, e ⟨512 + x.val, by omega⟩
  else if col - 32 - 32 < 32 then ∑ x : Fin 512, e ⟨1024 + x.val, by omega⟩
  else ∑ x : Fin 512, e ⟨1536 + x.val, by omega⟩

/-- Column `col` of the four groups quantised at once. -/
def packed (e : Fin 2048 → EReal) (B : Fin 2048 → Fin 128 → EReal) (col : Fin 128) : EReal :=
  Ideal.div (∑ κ, e κ * B κ col) (total e col.val)

/-- The three comparisons pick the lanes `512 * (col / 32) + x`. -/
theorem total_eq (e : Fin 2048 → EReal) (col : Fin 128) :
    total e col.val = ∑ x : Fin 512, e ⟨512 * (col.val / 32) + x.val, by omega⟩ := by
  have aux : ∀ (o q : ℕ) (h : ∀ x : Fin 512, o + x.val < 2048) (h' : ∀ x : Fin 512, 512 * q + x.val < 2048), o = 512 * q →
      (∑ x : Fin 512, e ⟨o + x.val, h x⟩) = ∑ x : Fin 512, e ⟨512 * q + x.val, h' x⟩ := by
    rintro _ _ _ _ rfl; rfl
  unfold total
  split_ifs
  · have := aux 0 (col.val / 32) (by omega) (by omega) (by omega)
    simpa only [Nat.zero_add] using this
  · exact aux _ _ _ _ (by omega)
  · exact aux _ _ _ _ (by omega)
  · exact aux _ _ _ _ (by omega)

/-- With the codebook on the diagonal, a lane holds the weight of its codeword for its group: a power of two of a sum scaled
by `1 / log 2` is the exponential. -/
theorem lane_real (γ : Fin 128 → ℝ) (c : Fin 512 → Fin 32 → ℝ) (A : Fin 128 → Fin 2048 → EReal) (s : Fin 2048 → EReal)
    (hA : ∀ j κ, A j κ = if j.val / 32 = κ.val / 512 then (c ⟨κ.val % 512, by omega⟩ ⟨j.val % 32, by omega⟩ : EReal) else 0)
    (hs : ∀ κ, s κ = ∑ x, (c ⟨κ.val % 512, by omega⟩ x : EReal) * c ⟨κ.val % 512, by omega⟩ x)
    (p : Fin 4) (k : Fin 512) (hκ : 512 * p.val + k.val < 2048) :
    lane ((2 * (Real.log 2)⁻¹ : ℝ) : EReal) (((Real.log 2)⁻¹ : ℝ) : EReal) (fun j => (γ j : EReal)) A s ⟨512 * p.val + k.val, hκ⟩
      = (weight (fun j => γ ⟨32 * p.val + j.val, by omega⟩) c k : EReal) := by
  have hq : (512 * p.val + k.val) / 512 = p.val := by omega
  have hr : (⟨(512 * p.val + k.val) % 512, by omega⟩ : Fin 512) = k := Fin.ext (by show _ % 512 = k.val; omega)
  have h1 : (∑ j : Fin 128, (γ j : EReal) * (((2 * (Real.log 2)⁻¹ : ℝ) : EReal) * A j ⟨512 * p.val + k.val, hκ⟩))
      = ((∑ j : Fin 32, γ ⟨32 * p.val + j.val, by omega⟩ * (2 * (Real.log 2)⁻¹ * c k j) : ℝ) : EReal) := by
    rw [sum_block 4 32 _ p]
    · rw [← coe_sum]
      refine Finset.sum_congr rfl fun j _ => ?_
      have hj := j.isLt
      have e2 : (⟨(32 * p.val + j.val) % 32, by omega⟩ : Fin 32) = j := Fin.ext (by show _ % 32 = j.val; omega)
      rw [hA, if_pos (by show (32 * p.val + j.val) / 32 = (512 * p.val + k.val) / 512; omega)]
      simp only [hr, e2, ← EReal.coe_mul]
    · intro i hi
      rw [hA, if_neg (by show ¬ (i.val / 32 = (512 * p.val + k.val) / 512); rw [hq]; exact hi), mul_zero, mul_zero]
  rw [lane, h1, hs]
  simp only [hr, ← EReal.coe_mul, coe_sum, ← EReal.coe_sub]
  show ((Real.rpow 2 _ : ℝ) : EReal) = _
  have hl : Real.log 2 ≠ 0 := (Real.log_pos one_lt_two).ne'
  congr 1
  show (2 : ℝ) ^ (_ : ℝ) = _
  rw [Real.rpow_def_of_pos two_pos, weight]
  congr 1
  have : (∑ j : Fin 32, γ ⟨32 * p.val + j.val, by omega⟩ * (2 * (Real.log 2)⁻¹ * c k j))
      = (Real.log 2)⁻¹ * (2 * ∑ j : Fin 32, γ ⟨32 * p.val + j.val, by omega⟩ * c k j) := by
    rw [Finset.mul_sum, Finset.mul_sum]
    exact Finset.sum_congr rfl fun j _ => by ring
  rw [this, ← mul_sub, mul_inv_cancel_left₀ hl]

/-- Four groups at a time: column `col` is entry `col % 32` of group `col / 32`, quantised. -/
theorem packed_real (γ : Fin 128 → ℝ) (c : Fin 512 → Fin 32 → ℝ) (A : Fin 128 → Fin 2048 → EReal) (s : Fin 2048 → EReal)
    (B : Fin 2048 → Fin 128 → EReal)
    (hA : ∀ j κ, A j κ = if j.val / 32 = κ.val / 512 then (c ⟨κ.val % 512, by omega⟩ ⟨j.val % 32, by omega⟩ : EReal) else 0)
    (hs : ∀ κ, s κ = ∑ x, (c ⟨κ.val % 512, by omega⟩ x : EReal) * c ⟨κ.val % 512, by omega⟩ x)
    (hB : ∀ κ j, B κ j = if κ.val / 512 = j.val / 32 then (c ⟨κ.val % 512, by omega⟩ ⟨j.val % 32, by omega⟩ : EReal) else 0)
    (col : Fin 128) :
    packed (lane ((2 * (Real.log 2)⁻¹ : ℝ) : EReal) (((Real.log 2)⁻¹ : ℝ) : EReal) (fun j => (γ j : EReal)) A s) B col
      = (recon (fun j => γ ⟨32 * (col.val / 32) + j.val, by omega⟩) c ⟨col.val % 32, by omega⟩ : EReal) := by
  have hl := lane_real γ c A s hA hs ⟨col.val / 32, by omega⟩
  have hpos := sum_weight_pos (fun j => γ ⟨32 * (col.val / 32) + j.val, by omega⟩) c
  rw [packed, total_eq, sum_block 4 512 _ (⟨col.val / 32, by omega⟩ : Fin 4)]
  · have hb : ∀ k : Fin 512, B ⟨512 * (col.val / 32) + k.val, by omega⟩ col = (c k ⟨col.val % 32, by omega⟩ : EReal) := by
      intro k
      have hk := k.isLt
      have hr : (⟨(512 * (col.val / 32) + k.val) % 512, by omega⟩ : Fin 512) = k := Fin.ext (by show _ % 512 = k.val; omega)
      rw [hB, if_pos (by show (512 * (col.val / 32) + k.val) / 512 = col.val / 32; omega)]
      simp only [hr]
    simp only at hl ⊢
    simp only [hl _ _, hb, ← EReal.coe_mul, coe_sum]
    rw [div_coe _ _ hpos.ne', recon]
  · intro i hi
    rw [hB, if_neg hi, mul_zero]

/-! ### The network -/

/-- A row of numbers quantised in groups of 32. -/
def row {n : ℕ} (hn : 32 ∣ n) (w : Fin n → ℝ) (c : Fin 512 → Fin 32 → ℝ) (l : Fin n) : ℝ :=
  recon (fun j => w ⟨32 * (l.val / 32) + j.val, by have := l.isLt; omega⟩) c ⟨l.val % 32, by omega⟩

/-- A run of 128 numbers of a row, quantised four groups at once, is that part of the row, quantised. -/
theorem packed_row {n : ℕ} (hn : 128 ∣ n) (w : Fin n → ℝ) (c : Fin 512 → Fin 32 → ℝ) (A : Fin 128 → Fin 2048 → EReal) (s : Fin 2048 → EReal)
    (B : Fin 2048 → Fin 128 → EReal)
    (hA : ∀ j κ, A j κ = if j.val / 32 = κ.val / 512 then (c ⟨κ.val % 512, by omega⟩ ⟨j.val % 32, by omega⟩ : EReal) else 0)
    (hs : ∀ κ, s κ = ∑ x, (c ⟨κ.val % 512, by omega⟩ x : EReal) * c ⟨κ.val % 512, by omega⟩ x)
    (hB : ∀ κ j, B κ j = if κ.val / 512 = j.val / 32 then (c ⟨κ.val % 512, by omega⟩ ⟨j.val % 32, by omega⟩ : EReal) else 0)
    (l : Fin n) (g : Fin 128 → EReal) (hg : ∀ j, g j = (w ⟨128 * (l.val / 128) + j.val, by have := l.isLt; omega⟩ : EReal)) (h : l.val % 128 < 128) :
    packed (lane ((2 * (Real.log 2)⁻¹ : ℝ) : EReal) (((Real.log 2)⁻¹ : ℝ) : EReal) g A s) B ⟨l.val % 128, h⟩
      = (row (dvd_trans (by norm_num) hn) w c l : EReal) := by
  rw [funext hg, packed_real _ c A s B hA hs hB, row]
  have e1 : l.val % 128 % 32 = l.val % 32 := by omega
  have e2 : ∀ j, 128 * (l.val / 128) + (32 * (l.val % 128 / 32) + j) = 32 * (l.val / 32) + j := fun j => by omega
  simp only [e1, e2]

/-- Entry `(R, n)` of the result: two layers with a rectifier between them, on quantised parameters. -/
def out (x : Fin 4096 → Fin 768 → EReal) (w1 : Fin 768 → Fin 3072 → ℝ) (b1 : Fin 3072 → ℝ) (w2 : Fin 3072 → Fin 768 → ℝ)
    (b2 : Fin 768 → ℝ) (c : Fin 512 → Fin 32 → ℝ) (R : Fin 4096) (n : Fin 768) : EReal :=
  ∑ f : Fin 3072, max (∑ k : Fin 768, x R k * (row (by norm_num) (w1 k) c f : EReal) + (row (by norm_num) b1 c f : EReal)) 0
    * (row (by norm_num) (w2 f) c n : EReal) + (row (by norm_num) b2 c n : EReal)

end Cert.Quant

end
-- ==== Proof.KernelIdeal.Read.lean ====
/- What the host prepares for the kernel, and what the kernel's payloads compute, entry by entry. -/
module

public import proofs.«01_k».proof.Proof.KernelIdeal.Steps
public import proofs.«01_k».proof.Proof.Quant
public import Idealize.ShloMosaic.Lib.Pointwise

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem StableHlo

/-! ### The host's arrays -/

/-- The 4×4 identity, as the host builds it. -/
def eye : FVec Ideal S4x4 .f32 :=
  uitofp .f32 (cmpi .eq (addi (iotaInDim S4x4 32 0) (broadcastInDim S4x4 ![] bcast_S_S4x4 (constantI S_ 32 0#32))) (iotaInDim S4x4 32 1))

/-- The codebook's transpose on four diagonal blocks. -/
def codeT (C : FVec Ideal S512x32 .f32) : FVec Ideal S128x2048 .f32 :=
  shapeCast S128x2048 (mulf
    (broadcastInDim S4x32x4x512 ![0, 1, 2, 3] bcast_S4x1x4x1_S4x32x4x512_0_1_2_3 (broadcastInDim S4x1x4x1 ![0, 2] bcast_S4x4_S4x1x4x1_0_2 eye))
    (broadcastInDim S4x32x4x512 ![0, 1, 2, 3] bcast_S1x32x1x512_S4x32x4x512_0_1_2_3 (broadcastInDim S1x32x1x512 ![1, 3] bcast_S32x512_S1x32x1x512_1_3
      (transpose S32x512 [1, 0] C transposes_S512x32_S32x512_1_0)))) shapeCasts_S4x32x4x512_S128x2048

/-- The codebook on four diagonal blocks. -/
def code (C : FVec Ideal S512x32 .f32) : FVec Ideal S2048x128 .bf16 :=
  truncf .bf16 (shapeCast S2048x128 (mulf
    (broadcastInDim S4x512x4x32 ![0, 1, 2, 3] bcast_S4x1x4x1_S4x512x4x32_0_1_2_3 (broadcastInDim S4x1x4x1 ![0, 2] bcast_S4x4_S4x1x4x1_0_2 eye))
    (broadcastInDim S4x512x4x32 ![0, 1, 2, 3] bcast_S1x512x1x32_S4x512x4x32_0_1_2_3 (broadcastInDim S1x512x1x32 ![1, 3] bcast_S512x32_S1x512x1x32_1_3
      C))) shapeCasts_S4x512x4x32_S2048x128) bitsLt_bf16_f32

/-- The codewords' squared lengths, four times over. -/
def lens (C : FVec Ideal S512x32 .f32) : FVec Ideal S1x2048 .f32 :=
  broadcastInDim S1x2048 ![1] bcast_S2048_S1x2048_1 (shapeCast S2048 (broadcastInDim S4x512 ![0, 1] bcast_S1x512_S4x512_0_1
    (shapeCast S1x512 (Host.reduceAdd (mulf C C) (constant S_ .f32 0x00000000#32) reducesTo_S512x32_S512_d1 h_S_) shapeCasts_S512_S1x512)) shapeCasts_S4x512_S2048)

/-- The two biases, one after the other, in rows of 128. -/
def biases (b1 : FVec Ideal S3072 .f32) (b2 : FVec Ideal S768 .f32) : FVec Ideal S30x128 .f32 :=
  shapeCast S30x128 (concatenate S3840 0 [⟨S3072, b1⟩, ⟨S768, b2⟩] concatenates_S3072_S768_S3840_d0) shapeCasts_S3840_S30x128

/-- One number of the identity. -/
theorem eye_at (a b : ℕ) (ha : a < 4) (hb : b < 4) :
    (FloatOps.uitofp .f32 (IntOp.cmpi .eq (IntOp.addi (BitVec.ofNat 32 a) 0#32) (BitVec.ofNat 32 b)) : Ideal .f32) = if a = b then 1 else 0 := by
  have key : IntOp.cmpi .eq (IntOp.addi (BitVec.ofNat 32 a) 0#32) (BitVec.ofNat 32 b) = if a = b then 1#1 else 0#1 := by
    interval_cases a <;> interval_cases b <;> decide
  rw [key]
  show (((if a = b then 1#1 else 0#1 : BitVec 1).toNat : ℝ) : EReal) = _
  split_ifs <;> simp

theorem codeT_at (C : FVec Ideal S512x32 .f32) (j : Fin 128) (κ : Fin 2048) :
    codeT C (ix2 j κ) = if j.val / 32 = κ.val / 512 then C (ix2 ⟨κ.val % 512, by omega⟩ ⟨j.val % 32, by omega⟩) else 0 := by
  pointwise [codeT, eye]
  rw [eye_at _ _ (by omega) (by omega), ite_mul, one_mul, zero_mul]

theorem code_at (C : FVec Ideal S512x32 .f32) (κ : Fin 2048) (j : Fin 128) :
    code C (ix2 κ j) = if κ.val / 512 = j.val / 32 then C (ix2 ⟨κ.val % 512, by omega⟩ ⟨j.val % 32, by omega⟩) else 0 := by
  pointwise [code, eye]
  rw [eye_at _ _ (by omega) (by omega), ite_mul, one_mul, zero_mul]

theorem lens_at (C : FVec Ideal S512x32 .f32) (κ : Fin 2048) :
    lens C (ix2 0 κ) = ∑ x, C (ix2 ⟨κ.val % 512, by omega⟩ x) * C (ix2 ⟨κ.val % 512, by omega⟩ x) := by
  pointwise [lens]

theorem biases_at (b1 : FVec Ideal S3072 .f32) (b2 : FVec Ideal S768 .f32) (k : Fin 30) (l : Fin 128) :
    biases b1 b2 (ix2 k l) = if h : k.val * 128 + l.val < 3072 then b1 (ix1 ⟨k.val * 128 + l.val, h⟩)
      else b2 (ix1 ⟨k.val * 128 + l.val - 3072, by omega⟩) := by
  pointwise [biases]

theorem x_at (x : FVec Ideal S2x2048x768 .f32) (R : Fin 4096) (k : Fin 768) :
    shapeCast S4096x768 x shapeCasts_S2x2048x768_S4096x768 (ix2 R k) = x (ix3 ⟨R.val / 2048, by omega⟩ ⟨R.val % 2048, by omega⟩ k) := by
  pointwise []

variable (m : (ℓ : Loc nD τ sig) → Buf (Elt Ideal) ℓ)

/-! What the operations before the launch leave in its operands. -/

theorem V9 (c : Dev nD) : V m c main_v9 = codeT (m ((c.tc : Thread nD τ).loc main_arg5)) := by
  unfold V
  simp only [hostOps0, hostOps0_1, hostOps0_2, hostOps0_3, hostOps0_4, List.flatten_cons, List.flatten_nil, List.append_nil, List.cons_append, List.nil_append]
  after_results_simp
  rfl

theorem V7 (c : Dev nD) : V m c main_v7 = code (m ((c.tc : Thread nD τ).loc main_arg5)) := by
  unfold V
  simp only [hostOps0, hostOps0_1, hostOps0_2, hostOps0_3, hostOps0_4, List.flatten_cons, List.flatten_nil, List.append_nil, List.cons_append, List.nil_append]
  after_results_simp
  rfl

theorem V15 (c : Dev nD) : V m c main_v15 = lens (m ((c.tc : Thread nD τ).loc main_arg5)) := by
  unfold V
  simp only [hostOps0, hostOps0_1, hostOps0_2, hostOps0_3, hostOps0_4, List.flatten_cons, List.flatten_nil, List.append_nil, List.cons_append, List.nil_append]
  after_results_simp
  rfl

theorem V17 (c : Dev nD) : V m c main_v17 = biases (m ((c.tc : Thread nD τ).loc main_arg2)) (m ((c.tc : Thread nD τ).loc main_arg4)) := by
  unfold V
  simp only [hostOps0, hostOps0_1, hostOps0_2, hostOps0_3, hostOps0_4, List.flatten_cons, List.flatten_nil, List.append_nil, List.cons_append, List.nil_append]
  after_results_simp
  rfl

theorem V18 (c : Dev nD) : V m c main_v18 = shapeCast S4096x768 (m ((c.tc : Thread nD τ).loc main_arg0) : FVec Ideal S2x2048x768 .f32) shapeCasts_S2x2048x768_S4096x768 := by
  unfold V
  simp only [hostOps0, hostOps0_1, hostOps0_2, hostOps0_3, hostOps0_4, List.flatten_cons, List.flatten_nil, List.append_nil, List.cons_append, List.nil_append]
  after_results_simp
  rfl

theorem Varg1 (c : Dev nD) : V m c main_arg1 = m ((c.tc : Thread nD τ).loc main_arg1) := by
  unfold V
  simp only [hostOps0, hostOps0_1, hostOps0_2, hostOps0_3, hostOps0_4, List.flatten_cons, List.flatten_nil, List.append_nil, List.cons_append, List.nil_append]
  after_results_simp

theorem Varg3 (c : Dev nD) : V m c main_arg3 = m ((c.tc : Thread nD τ).loc main_arg3) := by
  unfold V
  simp only [hostOps0, hostOps0_1, hostOps0_2, hostOps0_3, hostOps0_4, List.flatten_cons, List.flatten_nil, List.append_nil, List.cons_append, List.nil_append]
  after_results_simp

/-! ### The payloads -/

theorem named_t : Named.named (F := Ideal) (φ := .f32) Cert.KernelIdeal.κ "two_log2e" 0x4038AA3B#32 = ((2 * (Real.log 2)⁻¹ : ℝ) : EReal) :=
  IdealRules.named_const.ideal_named_scalar _ _ _ _ rfl
theorem named_u : Named.named (F := Ideal) (φ := .f32) Cert.KernelIdeal.κ "log2e" 0x3FB8AA3B#32 = (((Real.log 2)⁻¹ : ℝ) : EReal) :=
  IdealRules.named_const.ideal_named_scalar _ _ _ _ rfl

/-- The lanes of a run of 128 numbers. -/
def lanes (v0 : Vec Ideal S128x2048 .f32) (v5 : Vec Ideal S1x2048 .f32) (g : Fin 128 → EReal) : Fin 2048 → EReal :=
  Quant.lane ((2 * (Real.log 2)⁻¹ : ℝ) : EReal) (((Real.log 2)⁻¹ : ℝ) : EReal) g (fun j κ => v0 (ix2 j κ)) (fun κ => v5 (ix2 0 κ))

variable (v0 : Vec Ideal S128x2048 .f32) (v5 : Vec Ideal S1x2048 .f32) (v9 : Vec Ideal S2048x128 .bf16)

set_option maxHeartbeats 2000000 in
/-- 32 rows of the first weight matrix: each run of 128 of a row is quantised by itself. -/
theorem pay10_at (w : Vec Ideal S32x3072 .f32) (r : Fin 32) (l : Fin 3072) :
    k0_pay10 (k0_pay1 v0) (k0_pay2 v5) (k0_pay3 v9) w (ix2 r l)
      = Quant.packed (lanes v0 v5 fun j => w (ix2 r ⟨128 * (l.val / 128) + j.val, by omega⟩)) (fun κ j => v9 (ix2 κ j)) ⟨l.val % 128, by omega⟩ := by
  have e : ∀ j, (r.val * 24 + l.val / 128) % 24 * 128 + j = 128 * (l.val / 128) + j := fun j => by omega
  pointwise [k0_pay10, k0_pay1, k0_pay2, k0_pay3]
  simp only [named_t, named_u, e]
  rfl

set_option maxHeartbeats 2000000 in
/-- 128 rows of the second weight matrix, likewise. -/
theorem pay12_at (w : Vec Ideal S128x768 .f32) (r : Fin 128) (l : Fin 768) :
    k0_pay12 (k0_pay1 v0) (k0_pay2 v5) (k0_pay3 v9) w (ix2 r l)
      = Quant.packed (lanes v0 v5 fun j => w (ix2 r ⟨128 * (l.val / 128) + j.val, by omega⟩)) (fun κ j => v9 (ix2 κ j)) ⟨l.val % 128, by omega⟩ := by
  have e : ∀ j, (r.val * 6 + l.val / 128) % 6 * 128 + j = 128 * (l.val / 128) + j := fun j => by omega
  pointwise [k0_pay12, k0_pay1, k0_pay2, k0_pay3]
  simp only [named_t, named_u, e]
  rfl

set_option maxHeartbeats 2000000 in
/-- The first bias, and the second: rows 0 to 23 and 24 to 29 of the 30. -/
theorem pay5_at (w : Vec Ideal S30x128 .f32) (l : Fin 3072) :
    k0_pay5 v0 v5 v9 w (ix2 0 l)
      = Quant.packed (lanes v0 v5 fun j => w (ix2 ⟨l.val / 128, by omega⟩ j)) (fun κ j => v9 (ix2 κ j)) ⟨l.val % 128, by omega⟩ := by
  pointwise [k0_pay5, k0_pay4, k0_pay1, k0_pay2, k0_pay3]
  simp only [named_t, named_u]
  rfl

set_option maxHeartbeats 2000000 in
@[inherit_doc pay5_at] theorem pay6_at (w : Vec Ideal S30x128 .f32) (l : Fin 768) :
    k0_pay6 v0 v5 v9 w (ix2 0 l)
      = Quant.packed (lanes v0 v5 fun j => w (ix2 ⟨24 + l.val / 128, by omega⟩ j)) (fun κ j => v9 (ix2 κ j)) ⟨l.val % 128, by omega⟩ := by
  pointwise [k0_pay6, k0_pay4, k0_pay1, k0_pay2, k0_pay3]
  simp only [named_t, named_u]
  rfl

/-- 512 rows of the hidden layer. -/
theorem pay8_at (x : Vec Ideal S512x768 .f32) (q : Vec Ideal S768x3072 .bf16) (b : Vec Ideal S1x3072 .f32) (r : Fin 512) (f : Fin 3072) :
    k0_pay8 x q b (ix2 r f) = max (∑ k, x (ix2 r k) * q (ix2 k f) + b (ix2 0 f)) 0 := by
  pointwise [k0_pay8]

/-- 512 rows of the result. -/
theorem pay9_at (h : Vec Ideal S512x3072 .bf16) (q : Vec Ideal S3072x768 .bf16) (b : Vec Ideal S1x768 .f32) (r : Fin 512) (n : Fin 768) :
    k0_pay9 h q b (ix2 r n) = ∑ f, h (ix2 r f) * q (ix2 f n) + b (ix2 0 n) := by
  pointwise [k0_pay9]

end Cert.KernelIdeal.Val

end
-- ==== Proof.KernelIdeal.Value.lean ====
/- What the launch leaves in its result array, entry by entry, when the parameters are real numbers. -/
module

public import proofs.«01_k».proof.Proof.KernelIdeal.Read
public import proofs.«01_k».proof.Proof.KernelIdeal.State
public import Idealize.ShloMosaic.Lib.Pipeline.ValueKit

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem StableHlo
open Idealize.ShloMosaic.Pipeline (Dat)

variable (m : (ℓ : Loc nD τ sig) → Buf (Elt Ideal) ℓ)

/-! ### The windows' blocks -/

theorem index0 : ∀ t : Fin cfg0.N, 1 ≤ t.val → t.val < 9 → win0_0.index t = ![t.val - 1, 0] :=
  (by decide +kernel : ∀ t : Fin grid0.N, _)
theorem index1 : ∀ t : Fin cfg0.N, 9 ≤ t.val → t.val < 17 → win0_1.index t = ![t.val - 9, 0] :=
  (by decide +kernel : ∀ t : Fin grid0.N, _)
theorem index2 : ∀ t : Fin cfg0.N, win0_2.index t = ![0, 0] := (by decide +kernel : ∀ t : Fin grid0.N, _)
theorem index3 : ∀ t : Fin cfg0.N, 9 ≤ t.val → t.val < 17 → win0_3.index t = ![t.val - 9, 0] :=
  (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, 17 ≤ t.val → win0_7.index t = ![t.val - 17, 0] :=
  (by decide +kernel : ∀ t : Fin grid0.N, _)

/-- At points 1 to 8 the first window holds 96 rows of the first weight matrix. -/
theorem iblk0_at (c : Dev nD) (t : Fin cfg0.N) (h1 : 1 ≤ t.val) (h2 : t.val < 9) (a : Fin 96) (b : Fin 3072) :
    (iblk m c 0 t : Vec Ideal S96x3072 .f32) (ix2 a b)
      = (m ((c.tc : Thread nD τ).loc main_arg1) : FVec Ideal S768x3072 .f32) (ix2 ⟨96 * (t.val - 1) + a.val, by omega⟩ b) := by
  show V m c main_arg1 (((cfg0.win 0).blk t).view.emb (ix2 a b)) = _
  rw [Varg1]
  refine congrArg (m ((c.tc : Thread nD τ).loc main_arg1)) ?_
  have e := index0 t h1 h2
  blk_ext [e]

/-- At points 9 to 16 the second window holds 384 rows of the second weight matrix. -/
theorem iblk1_at (c : Dev nD) (t : Fin cfg0.N) (h1 : 9 ≤ t.val) (h2 : t.val < 17) (a : Fin 384) (b : Fin 768) :
    (iblk m c 1 t : Vec Ideal S384x768 .f32) (ix2 a b)
      = (m ((c.tc : Thread nD τ).loc main_arg3) : FVec Ideal S3072x768 .f32) (ix2 ⟨384 * (t.val - 9) + a.val, by omega⟩ b) := by
  show V m c main_arg3 (((cfg0.win 1).blk t).view.emb (ix2 a b)) = _
  rw [Varg3]
  refine congrArg (m ((c.tc : Thread nD τ).loc main_arg3)) ?_
  have e := index1 t h1 h2
  blk_ext [e]

/-- At points 9 to 16 the fourth window holds 512 rows of the input. -/
theorem iblk3_at (c : Dev nD) (t : Fin cfg0.N) (h1 : 9 ≤ t.val) (h2 : t.val < 17) (a : Fin 512) (b : Fin 768) :
    (iblk m c 3 t : Vec Ideal S512x768 .f32) (ix2 a b)
      = (V m c main_v18 : FVec Ideal S4096x768 .f32) (ix2 ⟨512 * (t.val - 9) + a.val, by omega⟩ b) := by
  show V m c main_v18 (((cfg0.win 3).blk t).view.emb (ix2 a b)) = _
  refine congrArg (V m c main_v18) ?_
  have e := index3 t h1 h2
  blk_ext [e]

/-- The other input windows hold their whole arrays. -/
theorem iblk2_eq (c : Dev nD) (t : Fin cfg0.N) : iblk m c 2 t = V m c main_v17 := by
  funext j
  show V m c main_v17 (((cfg0.win 2).blk t).view.emb j) = V m c main_v17 j
  refine congrArg (V m c main_v17) ?_
  have e := index2 t
  blk_ext [e]
@[inherit_doc iblk2_eq] theorem iblk4_eq (c : Dev nD) (t : Fin cfg0.N) : iblk m c 4 t = codeT (m ((c.tc : Thread nD τ).loc main_arg5)) := by
  rw [← V9]
  funext j
  show V m c main_v9 (((cfg0.win 4).blk t).view.emb j) = V m c main_v9 j
  refine congrArg (V m c main_v9) ?_
  have e := index4 t
  blk_ext [e]
@[inherit_doc iblk2_eq] theorem iblk5_eq (c : Dev nD) (t : Fin cfg0.N) : iblk m c 5 t = lens (m ((c.tc : Thread nD τ).loc main_arg5)) := by
  rw [← V15]
  funext j
  show V m c main_v15 (((cfg0.win 5).blk t).view.emb j) = V m c main_v15 j
  refine congrArg (V m c main_v15) ?_
  have e := index5 t
  blk_ext [e]
@[inherit_doc iblk2_eq] theorem iblk6_eq (c : Dev nD) (t : Fin cfg0.N) : iblk m c 6 t = code (m ((c.tc : Thread nD τ).loc main_arg5)) := by
  rw [← V7]
  funext j
  show V m c main_v7 (((cfg0.win 6).blk t).view.emb j) = V m c main_v7 j
  refine congrArg (V m c main_v7) ?_
  have e := index6 t
  blk_ext [e]

/-! ### The quantised parameters -/

/-- A run of 128 numbers of a row, quantised against the host's arrays of the codebook, is that part of the row, quantised. -/
theorem packed_code {C : FVec Ideal S512x32 .f32} {cb : Fin 512 → Fin 32 → ℝ} (hC : ∀ k j, C (ix2 k j) = (cb k j : EReal))
    {n : ℕ} (hn : 128 ∣ n) (w : Fin n → ℝ) (l : Fin n) (g : Fin 128 → EReal)
    (hg : ∀ j, g j = (w ⟨128 * (l.val / 128) + j.val, by have := l.isLt; omega⟩ : EReal)) (h : l.val % 128 < 128) :
    Quant.packed (lanes (codeT C) (lens C) g) (fun κ j => code C (ix2 κ j)) ⟨l.val % 128, h⟩
      = (Quant.row (dvd_trans (by norm_num) hn) w cb l : EReal) :=
  Quant.packed_row hn w cb _ _ _ (fun j κ => by rw [codeT_at, hC]) (fun κ => by rw [lens_at]; simp only [hC])
    (fun κ j => by rw [code_at, hC]) l g hg h

/-- The input's rows, one after the other. -/
def input (c : Dev nD) (R : Fin 4096) (k : Fin 768) : EReal :=
  (m ((c.tc : Thread nD τ).loc main_arg0) : FVec Ideal S2x2048x768 .f32) (ix3 ⟨R.val / 2048, by omega⟩ ⟨R.val % 2048, by omega⟩ k)

section Entries

variable (c : Dev nD) (w1 : Fin 768 → Fin 3072 → ℝ) (b1 : Fin 3072 → ℝ) (w2 : Fin 3072 → Fin 768 → ℝ) (b2 : Fin 768 → ℝ) (cb : Fin 512 → Fin 32 → ℝ)
  (h1 : ∀ k l, (m ((c.tc : Thread nD τ).loc main_arg1) : FVec Ideal S768x3072 .f32) (ix2 k l) = (w1 k l : EReal))
  (h2 : ∀ l, (m ((c.tc : Thread nD τ).loc main_arg2) : FVec Ideal S3072 .f32) (ix1 l) = (b1 l : EReal))
  (h3 : ∀ k l, (m ((c.tc : Thread nD τ).loc main_arg3) : FVec Ideal S3072x768 .f32) (ix2 k l) = (w2 k l : EReal))
  (h4 : ∀ l, (m ((c.tc : Thread nD τ).loc main_arg4) : FVec Ideal S768 .f32) (ix1 l) = (b2 l : EReal))
  (h5 : ∀ k l, (m ((c.tc : Thread nD τ).loc main_arg5) : FVec Ideal S512x32 .f32) (ix2 k l) = (cb k l : EReal))

include h1 h5 in
/-- The first weight matrix, quantised. -/
theorem QW1_entry (k : Fin 768) (l : Fin 3072) : QW1 m c (ix2 k l) = (Quant.row (by norm_num) (w1 k) cb l : EReal) := by
  have hk := k.isLt
  show qs1 m c (pt (1 + k.val / 96) (by omega)) (k.val % 96 / 32) (by omega) (ix2 ⟨k.val % 32, by omega⟩ l) = _
  unfold qs1
  rw [iblk4_eq, iblk5_eq, iblk6_eq, pay10_at]
  refine packed_code h5 (by norm_num) (w1 k) l _ (fun j => ?_) _
  rw [← h1]
  refine (iblk0_at m c (pt (1 + k.val / 96) (by omega)) (show 1 ≤ 1 + k.val / 96 by omega) (show 1 + k.val / 96 < 9 by omega)
    ⟨32 * (k.val % 96 / 32) + k.val % 32, by omega⟩ _).trans ?_
  refine congrArg (fun i => (m ((c.tc : Thread nD τ).loc main_arg1) : FVec Ideal S768x3072 .f32) (ix2 i _)) (Fin.ext ?_)
  show 96 * (1 + k.val / 96 - 1) + (32 * (k.val % 96 / 32) + k.val % 32) = k.val
  omega

include h3 h5 in
/-- The second weight matrix, quantised. -/
theorem QW2_entry (k : Fin 3072) (l : Fin 768) : QW2 m c (ix2 k l) = (Quant.row (by norm_num) (w2 k) cb l : EReal) := by
  have hk := k.isLt
  show qs2 m c (pt (9 + k.val / 384) (by omega)) (k.val % 384 / 128) (by omega) (ix2 ⟨k.val % 128, by omega⟩ l) = _
  unfold qs2
  rw [iblk4_eq, iblk5_eq, iblk6_eq, pay12_at]
  refine packed_code h5 (by norm_num) (w2 k) l _ (fun j => ?_) _
  rw [← h3]
  refine (iblk1_at m c (pt (9 + k.val / 384) (by omega)) (show 9 ≤ 9 + k.val / 384 by omega) (show 9 + k.val / 384 < 17 by omega)
    ⟨128 * (k.val % 384 / 128) + k.val % 128, by omega⟩ _).trans ?_
  refine congrArg (fun i => (m ((c.tc : Thread nD τ).loc main_arg3) : FVec Ideal S3072x768 .f32) (ix2 i _)) (Fin.ext ?_)
  show 384 * (9 + k.val / 384 - 9) + (128 * (k.val % 384 / 128) + k.val % 128) = k.val
  omega

include h2 h5 in
/-- The first bias, quantised. -/
theorem QB1_entry (l : Fin 3072) : QB1 m c (ix2 0 l) = (Quant.row (by norm_num) b1 cb l : EReal) := by
  unfold QB1
  rw [iblk4_eq, iblk5_eq, iblk6_eq, iblk2_eq, V17, pay5_at]
  refine packed_code h5 (by norm_num) b1 l _ (fun j => ?_) _
  have hl := l.isLt
  have hj := j.isLt
  rw [biases_at, dif_pos (by show l.val / 128 * 128 + j.val < 3072; omega), ← h2]
  refine congrArg (fun i => (m ((c.tc : Thread nD τ).loc main_arg2) : FVec Ideal S3072 .f32) (ix1 i)) (Fin.ext ?_)
  show l.val / 128 * 128 + j.val = 128 * (l.val / 128) + j.val
  omega

include h4 h5 in
/-- The second bias, quantised. -/
theorem QB2_entry (l : Fin 768) : QB2 m c (ix2 0 l) = (Quant.row (by norm_num) b2 cb l : EReal) := by
  unfold QB2
  rw [iblk4_eq, iblk5_eq, iblk6_eq, iblk2_eq, V17, pay6_at]
  refine packed_code h5 (by norm_num) b2 l _ (fun j => ?_) _
  have hl := l.isLt
  have hj := j.isLt
  rw [biases_at, dif_neg (by show ¬ ((24 + l.val / 128) * 128 + j.val < 3072); omega), ← h4]
  refine congrArg (fun i => (m ((c.tc : Thread nD τ).loc main_arg4) : FVec Ideal S768 .f32) (ix1 i)) (Fin.ext ?_)
  show (24 + l.val / 128) * 128 + j.val - 3072 = 128 * (l.val / 128) + j.val
  omega

/-! ### The two layers -/

include h1 h2 h5 in
/-- The hidden layer. -/
theorem HH_entry (R : Fin 4096) (f : Fin 3072) :
    HH m c (ix2 R f) = max (∑ k, input m c R k * (Quant.row (by norm_num) (w1 k) cb f : EReal)
      + (Quant.row (by norm_num) b1 cb f : EReal)) 0 := by
  have hR := R.isLt
  show hs m c (pt (9 + R.val / 512) (by omega)) (ix2 ⟨R.val % 512, by omega⟩ f) = _
  unfold hs
  rw [pay8_at, QB1_entry m c b1 cb h2 h5]
  have hx : ∀ k, (iblk m c 3 (pt (9 + R.val / 512) (by omega)) : Vec Ideal S512x768 .f32) (ix2 ⟨R.val % 512, by omega⟩ k)
      = input m c R k := by
    intro k
    refine (iblk3_at m c (pt (9 + R.val / 512) (by omega)) (show 9 ≤ 9 + R.val / 512 by omega) (show 9 + R.val / 512 < 17 by omega) _ k).trans ?_
    rw [V18]
    refine Eq.trans ?_ (x_at (m ((c.tc : Thread nD τ).loc main_arg0)) R k)
    refine congrArg (fun i => shapeCast S4096x768 (m ((c.tc : Thread nD τ).loc main_arg0) : FVec Ideal S2x2048x768 .f32) shapeCasts_S2x2048x768_S4096x768 (ix2 i k)) (Fin.ext ?_)
    show 512 * (9 + R.val / 512 - 9) + R.val % 512 = R.val
    omega
  simp only [hx, QW1_entry m c w1 cb h1 h5]

include h1 h2 h3 h4 h5 in
/-- The rows of the result stored at point `t`. -/
theorem ys_entry (t : Fin cfg0.N) (ht : 17 ≤ t.val) (r : Fin 512) (n : Fin 768) (hr : 512 * (t.val - 17) + r.val < 4096) :
    ys m c t (ix2 r n) = Quant.out (input m c) w1 b1 w2 b2 cb ⟨512 * (t.val - 17) + r.val, hr⟩ n := by
  unfold ys
  rw [pay9_at, QB2_entry m c b2 cb h4 h5, Quant.out]
  have hh : ∀ f, Rows.band (n0 := 4096) (n1 := 3072) 512 (512 * (t.val - 17)) (by have := lt_of_lt_of_eq t.isLt N_eq; omega) (HH m c) (ix2 r f)
      = HH m c (ix2 ⟨512 * (t.val - 17) + r.val, hr⟩ f) := fun f => rfl
  simp only [hh, HH_entry m c w1 b1 cb h1 h2 h5, QW2_entry m c w2 cb h3 h5]

/-- The result array, as a function of the parameters' real numbers. -/
def final : FVec Ideal S4096x768 .f32 := fun y =>
  Quant.out (input m c) w1 b1 w2 b2 cb (y 0) (y 1)

include h1 h2 h3 h4 h5 in
/-- The launch leaves the result array at that. -/
theorem arr_final : (dats m 0 c).arrAt 7 cfg0.N = final m c w1 b1 w2 b2 cb := by
  refine (dats m 0 c).arrAt_eq_of_covers 7 _ (by decide +kernel) fun t hf y => ?_
  have ht : 17 ≤ t.val := by
    by_contra h
    rw [noFlush7 t (by omega)] at hf
    exact absurd hf (by decide)
  blk_simp
  have e := index7 t ht
  have hN := lt_of_lt_of_eq t.isLt N_eq
  have hy0 : (y 0).val < 512 := (y 0).isLt
  show ys m c t y = final m c w1 b1 w2 b2 cb ((win0_7.blk t).view.emb y)
  have hy : y = ix2 (y 0) (y 1) := by
    funext a
    match a with
    | ⟨0, _⟩ => rfl
    | ⟨1, _⟩ => rfl
  refine (congrArg (ys m c t) hy).trans ((ys_entry m c w1 b1 w2 b2 cb h1 h2 h3 h4 h5 t ht (y 0) (y 1) (by omega)).trans ?_)
  refine congrArg₂ (Quant.out _ w1 b1 w2 b2 cb) (Fin.ext ?_) (Fin.ext ?_)
  · show 512 * (t.val - 17) + (y 0).val = win0_7.index t 0 * 512 + 1 * (y 0).val
    rw [e]
    show 512 * (t.val - 17) + (y 0).val = (t.val - 17) * 512 + 1 * (y 0).val
    omega
  · show (y 1).val = win0_7.index t 1 * 768 + 1 * (y 1).val
    rw [e]
    show (y 1).val = 0 * 768 + 1 * (y 1).val
    omega

end Entries

end Cert.KernelIdeal.Val

end
-- ==== Proof.ReferenceIdeal.Read.lean ====
/- What the reference program computes, entry by entry. -/
module
public import proofs.«01_k».proof.Proof.Gen.ReferenceIdeal.Run
public import proofs.«01_k».proof.Proof.Quant
public import Idealize.ShloMosaic.Lib.Pointwise

@[expose] public section
set_option maxRecDepth 16384
noncomputable section
namespace Cert.ReferenceIdeal.Val
open Cert.ReferenceIdeal Cert.ReferenceIdeal.Gen
open Idealize.ShloMosaic Idealize.ShloMosaic.TcCoe Idealize.SL.Sem StableHlo

/-- The reference's quantiser of 73728 groups: the logits, the weights before they are divided, the reconstruction. -/
def lg73728 (g : FVec Ideal S73728x32 .f32) (C : FVec Ideal S512x32 .f32) : FVec Ideal S73728x512 .f32 :=
  mulf (broadcastInDim S73728x512 ![] bcast_S_S73728x512 (constant S_ .f32 0xBF800000#32))
    (addf (subf (broadcastInDim S73728x512 ![0, 1] bcast_S73728x1_S73728x512_0_1 (broadcastInDim S73728x1 ![0] bcast_S73728_S73728x1_0
          (Host.reduceAdd (mulf g g) (constant S_ .f32 0x00000000#32) reducesTo_S73728x32_S73728_d1 h_S_)))
        (mulf (broadcastInDim S73728x512 ![] bcast_S_S73728x512 (constant S_ .f32 0x40000000#32))
          (Host.dotGeneral dot_S73728x32_S32x512_S73728x512_1_0_0_1_n_n none g (transpose S32x512 [1, 0] C transposes_S512x32_S32x512_1_0))))
      (broadcastInDim S73728x512 ![0, 1] bcast_S1x512_S73728x512_0_1 (broadcastInDim S1x512 ![1] bcast_S512_S1x512_1
        (Host.reduceAdd (mulf C C) (constant S_ .f32 0x00000000#32) reducesTo_S512x32_S512_d1 h_S_))))
def ex73728 (g : FVec Ideal S73728x32 .f32) (C : FVec Ideal S512x32 .f32) : FVec Ideal S73728x512 .f32 :=
  Host.exp (subf (lg73728 g C) (broadcastInDim S73728x512 ![0, 1] bcast_S73728x1_S73728x512_0_1 (broadcastInDim S73728x1 ![0] bcast_S73728_S73728x1_0
    (maximumf (broadcastInDim S73728 ![] bcast_S_S73728 (constant S_ .f32 0xFF800000#32))
      (Host.reduce FloatOps.maximumf (lg73728 g C) (constant S_ .f32 0xFF800000#32) reducesTo_S73728x512_S73728_d1 h_S_)))))
def rq73728 (g : FVec Ideal S73728x32 .f32) (C : FVec Ideal S512x32 .f32) : FVec Ideal S73728x32 .f32 :=
  Host.dotGeneral dot_S73728x512_S512x32_S73728x32_1_0_0_1_n_n none
    (Host.divf (ex73728 g C) (broadcastInDim S73728x512 ![0, 1] bcast_S73728x1_S73728x512_0_1 (broadcastInDim S73728x1 ![0] bcast_S73728_S73728x1_0
      (Host.reduceAdd (ex73728 g C) (constant S_ .f32 0x00000000#32) reducesTo_S73728x512_S73728_d1 h_S_)))) C

/-- The reference's quantiser of 96 groups: the logits, the weights before they are divided, the reconstruction. -/
def lg96 (g : FVec Ideal S96x32 .f32) (C : FVec Ideal S512x32 .f32) : FVec Ideal S96x512 .f32 :=
  mulf (broadcastInDim S96x512 ![] bcast_S_S96x512 (constant S_ .f32 0xBF800000#32))
    (addf (subf (broadcastInDim S96x512 ![0, 1] bcast_S96x1_S96x512_0_1 (broadcastInDim S96x1 ![0] bcast_S96_S96x1_0
          (Host.reduceAdd (mulf g g) (constant S_ .f32 0x00000000#32) reducesTo_S96x32_S96_d1 h_S_)))
        (mulf (broadcastInDim S96x512 ![] bcast_S_S96x512 (constant S_ .f32 0x40000000#32))
          (Host.dotGeneral dot_S96x32_S32x512_S96x512_1_0_0_1_n_n none g (transpose S32x512 [1, 0] C transposes_S512x32_S32x512_1_0))))
      (broadcastInDim S96x512 ![0, 1] bcast_S1x512_S96x512_0_1 (broadcastInDim S1x512 ![1] bcast_S512_S1x512_1
        (Host.reduceAdd (mulf C C) (constant S_ .f32 0x00000000#32) reducesTo_S512x32_S512_d1 h_S_))))
def ex96 (g : FVec Ideal S96x32 .f32) (C : FVec Ideal S512x32 .f32) : FVec Ideal S96x512 .f32 :=
  Host.exp (subf (lg96 g C) (broadcastInDim S96x512 ![0, 1] bcast_S96x1_S96x512_0_1 (broadcastInDim S96x1 ![0] bcast_S96_S96x1_0
    (maximumf (broadcastInDim S96 ![] bcast_S_S96 (constant S_ .f32 0xFF800000#32))
      (Host.reduce FloatOps.maximumf (lg96 g C) (constant S_ .f32 0xFF800000#32) reducesTo_S96x512_S96_d1 h_S_)))))
def rq96 (g : FVec Ideal S96x32 .f32) (C : FVec Ideal S512x32 .f32) : FVec Ideal S96x32 .f32 :=
  Host.dotGeneral dot_S96x512_S512x32_S96x32_1_0_0_1_n_n none
    (Host.divf (ex96 g C) (broadcastInDim S96x512 ![0, 1] bcast_S96x1_S96x512_0_1 (broadcastInDim S96x1 ![0] bcast_S96_S96x1_0
      (Host.reduceAdd (ex96 g C) (constant S_ .f32 0x00000000#32) reducesTo_S96x512_S96_d1 h_S_)))) C

/-- The reference's quantiser of 24 groups: the logits, the weights before they are divided, the reconstruction. -/
def lg24 (g : FVec Ideal S24x32 .f32) (C : FVec Ideal S512x32 .f32) : FVec Ideal S24x512 .f32 :=
  mulf (broadcastInDim S24x512 ![] bcast_S_S24x512 (constant S_ .f32 0xBF800000#32))
    (addf (subf (broadcastInDim S24x512 ![0, 1] bcast_S24x1_S24x512_0_1 (broadcastInDim S24x1 ![0] bcast_S24_S24x1_0
          (Host.reduceAdd (mulf g g) (constant S_ .f32 0x00000000#32) reducesTo_S24x32_S24_d1 h_S_)))
        (mulf (broadcastInDim S24x512 ![] bcast_S_S24x512 (constant S_ .f32 0x40000000#32))
          (Host.dotGeneral dot_S24x32_S32x512_S24x512_1_0_0_1_n_n none g (transpose S32x512 [1, 0] C transposes_S512x32_S32x512_1_0))))
      (broadcastInDim S24x512 ![0, 1] bcast_S1x512_S24x512_0_1 (broadcastInDim S1x512 ![1] bcast_S512_S1x512_1
        (Host.reduceAdd (mulf C C) (constant S_ .f32 0x00000000#32) reducesTo_S512x32_S512_d1 h_S_))))
def ex24 (g : FVec Ideal S24x32 .f32) (C : FVec Ideal S512x32 .f32) : FVec Ideal S24x512 .f32 :=
  Host.exp (subf (lg24 g C) (broadcastInDim S24x512 ![0, 1] bcast_S24x1_S24x512_0_1 (broadcastInDim S24x1 ![0] bcast_S24_S24x1_0
    (maximumf (broadcastInDim S24 ![] bcast_S_S24 (constant S_ .f32 0xFF800000#32))
      (Host.reduce FloatOps.maximumf (lg24 g C) (constant S_ .f32 0xFF800000#32) reducesTo_S24x512_S24_d1 h_S_)))))
def rq24 (g : FVec Ideal S24x32 .f32) (C : FVec Ideal S512x32 .f32) : FVec Ideal S24x32 .f32 :=
  Host.dotGeneral dot_S24x512_S512x32_S24x32_1_0_0_1_n_n none
    (Host.divf (ex24 g C) (broadcastInDim S24x512 ![0, 1] bcast_S24x1_S24x512_0_1 (broadcastInDim S24x1 ![0] bcast_S24_S24x1_0
      (Host.reduceAdd (ex24 g C) (constant S_ .f32 0x00000000#32) reducesTo_S24x512_S24_d1 h_S_)))) C

variable (m : (ℓ : Loc nD τ sig) → Buf (Elt Ideal) ℓ)

/-- The reference's network on quantised parameters. -/
def net (x : FVec Ideal S2x2048x768 .f32) (q1 : FVec Ideal S768x3072 .f32) (qb1 : FVec Ideal S3072 .f32) (q2 : FVec Ideal S3072x768 .f32)
    (qb2 : FVec Ideal S768 .f32) : FVec Ideal S4096x768 .f32 :=
  shapeCast S4096x768 (addf (Host.dotGeneral dot_S2x2048x3072_S3072x768_S2x2048x768_2_0_01_1_n_n none
    (maximumf (addf (Host.dotGeneral dot_S2x2048x768_S768x3072_S2x2048x3072_2_0_01_1_n_n none x q1)
      (broadcastInDim S2x2048x3072 ![0, 1, 2] bcast_S1x1x3072_S2x2048x3072_0_1_2 (broadcastInDim S1x1x3072 ![2] bcast_S3072_S1x1x3072_2 qb1)))
      (broadcastInDim S2x2048x3072 ![] bcast_S_S2x2048x3072 (constant S_ .f32 0x00000000#32))) q2) (broadcastInDim S2x2048x768 ![0, 1, 2] bcast_S1x1x768_S2x2048x768_0_1_2 (broadcastInDim S1x1x768 ![2] bcast_S768_S1x1x768_2 qb2))) shapeCasts_S2x2048x768_S4096x768

/-- The reference's result. -/
def result (c : Dev nD) : FVec Ideal S4096x768 .f32 :=
  net (m ((c.tc : Thread nD τ).loc main_arg0))
    (shapeCast S768x3072 (shapeCast S2359296 (rq73728 (shapeCast S73728x32 (shapeCast S2359296 (m ((c.tc : Thread nD τ).loc main_arg1) : FVec Ideal S768x3072 .f32) shapeCasts_S768x3072_S2359296) shapeCasts_S2359296_S73728x32) (m ((c.tc : Thread nD τ).loc main_arg5))) shapeCasts_S73728x32_S2359296) shapeCasts_S2359296_S768x3072)
    (shapeCast S3072 (rq96 (shapeCast S96x32 (m ((c.tc : Thread nD τ).loc main_arg2) : FVec Ideal S3072 .f32) shapeCasts_S3072_S96x32) (m ((c.tc : Thread nD τ).loc main_arg5))) shapeCasts_S96x32_S3072)
    (shapeCast S3072x768 (shapeCast S2359296 (rq73728 (shapeCast S73728x32 (shapeCast S2359296 (m ((c.tc : Thread nD τ).loc main_arg3) : FVec Ideal S3072x768 .f32) shapeCasts_S3072x768_S2359296) shapeCasts_S2359296_S73728x32) (m ((c.tc : Thread nD τ).loc main_arg5))) shapeCasts_S73728x32_S2359296) shapeCasts_S2359296_S3072x768)
    (shapeCast S768 (rq24 (shapeCast S24x32 (m ((c.tc : Thread nD τ).loc main_arg4) : FVec Ideal S768 .f32) shapeCasts_S768_S24x32) (m ((c.tc : Thread nD τ).loc main_arg5))) shapeCasts_S24x32_S768)

/-- The run leaves that result. -/
theorem res_eq (c : Dev nD) : Value.res_main_v134 m c = result m c := by
  unfold Value.res_main_v134
  rfl

/-! ### Entries -/

/-- The largest entry of a row, as the host takes it. -/
theorem row_max {n : ℕ} (l : FVec Ideal ⟨2, ![n, 512]⟩ .f32) (h : (⟨2, ![n, 512]⟩ : Shape).ReducesTo [1] ⟨1, ![n]⟩) (hu : 0 < S_.numel) (r : Fin n) :
    Host.reduce FloatOps.maximumf l (constant S_ .f32 0xFF800000#32) h hu (ix1 r)
      = Finset.fold max (Ideal.ofBits .f32 0xFF800000#32) (fun k => l (ix2 r k)) Finset.univ := by
  rw [Host.reduce_eq_fold, h.fold_fiber_r2_a1]
  rfl

/-- The logits of the many groups, entry by entry. -/
theorem lg73728_at (g : FVec Ideal S73728x32 .f32) (C : FVec Ideal S512x32 .f32) (r : Fin 73728) (d : Fin 512) :
    lg73728 g C (ix2 r d) = Quant.logit (fun j => g (ix2 r j)) (fun k j => C (ix2 k j)) d := by
  pointwise [lg73728]
  rfl

/-- Subtracting a number per row, at an entry. -/
theorem shift_at (l : FVec Ideal S73728x512 .f32) (M : FVec Ideal S73728 .f32) (r : Fin 73728) (d : Fin 512) :
    Host.exp (subf l (broadcastInDim S73728x512 ![0, 1] bcast_S73728x1_S73728x512_0_1 (broadcastInDim S73728x1 ![0] bcast_S73728_S73728x1_0
      (maximumf (broadcastInDim S73728 ![] bcast_S_S73728 (constant S_ .f32 0xFF800000#32)) M)))) (ix2 r d)
      = Ideal.exp (l (ix2 r d) - max (Ideal.ofBits .f32 0xFF800000#32) (M (ix1 r))) := by
  pointwise []

/-- The weighted mean of the codewords, at an entry. -/
theorem mean_at (e : FVec Ideal S73728x512 .f32) (C : FVec Ideal S512x32 .f32) (r : Fin 73728) (d : Fin 32) :
    Host.dotGeneral dot_S73728x512_S512x32_S73728x32_1_0_0_1_n_n none
      (Host.divf e (broadcastInDim S73728x512 ![0, 1] bcast_S73728x1_S73728x512_0_1 (broadcastInDim S73728x1 ![0] bcast_S73728_S73728x1_0
        (Host.reduceAdd e (constant S_ .f32 0x00000000#32) reducesTo_S73728x512_S73728_d1 h_S_)))) C (ix2 r d)
      = ∑ k, Ideal.div (e (ix2 r k)) (∑ k, e (ix2 r k)) * C (ix2 k d) := by
  pointwise []

/-- The weights of the many groups, entry by entry. -/
theorem ex73728_at (g : FVec Ideal S73728x32 .f32) (C : FVec Ideal S512x32 .f32) (r : Fin 73728) (d : Fin 512) :
    ex73728 g C (ix2 r d) = Quant.shifted (fun j => g (ix2 r j)) (fun k j => C (ix2 k j)) d :=
  (shift_at (lg73728 g C) _ r d).trans (by
    rw [row_max (lg73728 g C) reducesTo_S73728x512_S73728_d1 h_S_ r, Quant.shifted]
    simp only [lg73728_at])

/-- The quantiser at an entry: the softmax over the distances. -/
theorem rq73728_at (g : FVec Ideal S73728x32 .f32) (C : FVec Ideal S512x32 .f32) (r : Fin 73728) (d : Fin 32) :
    rq73728 g C (ix2 r d) = Quant.soft (fun j => g (ix2 r j)) (fun k j => C (ix2 k j)) d :=
  (mean_at (ex73728 g C) C r d).trans (by
    rw [Quant.soft]
    simp only [ex73728_at])

@[inherit_doc rq73728_at] theorem rq96_at (g : FVec Ideal S96x32 .f32) (C : FVec Ideal S512x32 .f32) (r : Fin 96) (d : Fin 32) :
    rq96 g C (ix2 r d) = Quant.soft (fun j => g (ix2 r j)) (fun k j => C (ix2 k j)) d := by
  pointwise [rq96, ex96, lg96]
  rfl

@[inherit_doc rq73728_at] theorem rq24_at (g : FVec Ideal S24x32 .f32) (C : FVec Ideal S512x32 .f32) (r : Fin 24) (d : Fin 32) :
    rq24 g C (ix2 r d) = Quant.soft (fun j => g (ix2 r j)) (fun k j => C (ix2 k j)) d := by
  pointwise [rq24, ex24, lg24]
  rfl

theorem net_at (x : FVec Ideal S2x2048x768 .f32) (q1 : FVec Ideal S768x3072 .f32) (qb1 : FVec Ideal S3072 .f32) (q2 : FVec Ideal S3072x768 .f32)
    (qb2 : FVec Ideal S768 .f32) (R : Fin 4096) (n : Fin 768) :
    net x q1 qb1 q2 qb2 (ix2 R n) = ∑ f, max (∑ k, x (ix3 ⟨R.val / 2048, by omega⟩ ⟨R.val % 2048, by omega⟩ k) * q1 (ix2 k f) + qb1 (ix1 f)) 0
      * q2 (ix2 f n) + qb2 (ix1 n) := by
  pointwise [net]

section Quantised

variable (C : FVec Ideal S512x32 .f32) (c : Fin 512 → Fin 32 → ℝ) (hC : ∀ k j, C (ix2 k j) = (c k j : EReal))
include hC

/-- A quantised entry whose group is a group of a row: the row's entry, quantised. -/
theorem soft_row {n : ℕ} (hn : 32 ∣ n) (w : Fin n → ℝ) (l : Fin n) (g : Fin 32 → EReal)
    (hg : ∀ j : Fin 32, g j = (w ⟨32 * (l.val / 32) + j.val, by have := l.isLt; omega⟩ : EReal)) (h : l.val % 32 < 32) :
    Quant.soft g (fun k j => C (ix2 k j)) ⟨l.val % 32, h⟩ = (Quant.row hn w c l : EReal) := by
  rw [funext hg, show (fun k j => C (ix2 k j)) = fun k j => (c k j : EReal) from funext fun k => funext fun j => hC k j, Quant.soft_real]
  rfl

theorem w1_at (W : FVec Ideal S768x3072 .f32) (w : Fin 768 → Fin 3072 → ℝ) (hW : ∀ k l, W (ix2 k l) = (w k l : EReal)) (k : Fin 768) (l : Fin 3072) :
    shapeCast S768x3072 (shapeCast S2359296 (rq73728 (shapeCast S73728x32 (shapeCast S2359296 W shapeCasts_S768x3072_S2359296) shapeCasts_S2359296_S73728x32) C)
      shapeCasts_S73728x32_S2359296) shapeCasts_S2359296_S768x3072 (ix2 k l) = (Quant.row (by norm_num) (w k) c l : EReal) := by
  pointwise []
  rw [rq73728_at]
  refine soft_row C c hC _ (w k) l _ (fun j => ?_) _
  pointwise []
  rw [← hW]
  exact congrArg (fun i => W (ix2 k i)) (Fin.ext (by simp only []; omega))

theorem w2_at (W : FVec Ideal S3072x768 .f32) (w : Fin 3072 → Fin 768 → ℝ) (hW : ∀ k l, W (ix2 k l) = (w k l : EReal)) (k : Fin 3072) (l : Fin 768) :
    shapeCast S3072x768 (shapeCast S2359296 (rq73728 (shapeCast S73728x32 (shapeCast S2359296 W shapeCasts_S3072x768_S2359296) shapeCasts_S2359296_S73728x32) C)
      shapeCasts_S73728x32_S2359296) shapeCasts_S2359296_S3072x768 (ix2 k l) = (Quant.row (by norm_num) (w k) c l : EReal) := by
  pointwise []
  rw [rq73728_at]
  refine soft_row C c hC _ (w k) l _ (fun j => ?_) _
  pointwise []
  rw [← hW]
  exact congrArg (fun i => W (ix2 k i)) (Fin.ext (by simp only []; omega))

theorem b1_at (b : FVec Ideal S3072 .f32) (w : Fin 3072 → ℝ) (hb : ∀ l, b (ix1 l) = (w l : EReal)) (l : Fin 3072) :
    shapeCast S3072 (rq96 (shapeCast S96x32 b shapeCasts_S3072_S96x32) C) shapeCasts_S96x32_S3072 (ix1 l) = (Quant.row (by norm_num) w c l : EReal) := by
  pointwise []
  rw [rq96_at]
  refine soft_row C c hC _ w l _ (fun j => ?_) _
  pointwise []
  rw [← hb]
  exact congrArg (fun i => b (ix1 i)) (Fin.ext (by simp only []; omega))

theorem b2_at (b : FVec Ideal S768 .f32) (w : Fin 768 → ℝ) (hb : ∀ l, b (ix1 l) = (w l : EReal)) (l : Fin 768) :
    shapeCast S768 (rq24 (shapeCast S24x32 b shapeCasts_S768_S24x32) C) shapeCasts_S24x32_S768 (ix1 l) = (Quant.row (by norm_num) w c l : EReal) := by
  pointwise []
  rw [rq24_at]
  refine soft_row C c hC _ w l _ (fun j => ?_) _
  pointwise []
  rw [← hb]
  exact congrArg (fun i => b (ix1 i)) (Fin.ext (by simp only []; omega))

end Quantised

/-- The reference's result at an entry, when the parameters are real numbers. -/
theorem result_at (c : Dev nD) (w1 : Fin 768 → Fin 3072 → ℝ) (b1 : Fin 3072 → ℝ) (w2 : Fin 3072 → Fin 768 → ℝ) (b2 : Fin 768 → ℝ) (cb : Fin 512 → Fin 32 → ℝ)
    (h1 : ∀ k l, (m ((c.tc : Thread nD τ).loc main_arg1) : FVec Ideal S768x3072 .f32) (ix2 k l) = (w1 k l : EReal))
    (h2 : ∀ l, (m ((c.tc : Thread nD τ).loc main_arg2) : FVec Ideal S3072 .f32) (ix1 l) = (b1 l : EReal))
    (h3 : ∀ k l, (m ((c.tc : Thread nD τ).loc main_arg3) : FVec Ideal S3072x768 .f32) (ix2 k l) = (w2 k l : EReal))
    (h4 : ∀ l, (m ((c.tc : Thread nD τ).loc main_arg4) : FVec Ideal S768 .f32) (ix1 l) = (b2 l : EReal))
    (h5 : ∀ k l, (m ((c.tc : Thread nD τ).loc main_arg5) : FVec Ideal S512x32 .f32) (ix2 k l) = (cb k l : EReal)) (R : Fin 4096) (n : Fin 768) :
    result m c (ix2 R n) = Quant.out (fun R k => (m ((c.tc : Thread nD τ).loc main_arg0) : FVec Ideal S2x2048x768 .f32)
      (ix3 ⟨R.val / 2048, by omega⟩ ⟨R.val % 2048, by omega⟩ k)) w1 b1 w2 b2 cb R n := by
  rw [result, net_at, Quant.out]
  simp only [w1_at _ cb h5 _ w1 h1, w2_at _ cb h5 _ w2 h3, b1_at _ cb h5 _ b1 h2, b2_at _ cb h5 _ b2 h4]

end Cert.ReferenceIdeal.Val

end
-- ==== Proof.Algebraic.lean ====
/- The idealized kernel and the reference leave equal results, when the parameters are finite. -/
module

public import proofs.«01_k».proof.Proof.Frames
public import proofs.«01_k».proof.Proof.KernelIdeal.Value
public import proofs.«01_k».proof.Proof.ReferenceIdeal.Read

@[expose] public section

set_option maxRecDepth 16384

noncomputable section

namespace Cert.Algebraic

open Idealize.ShloMosaic Idealize.ShloMosaic.TcCoe Idealize.SL.Sem

/-- The precondition's shape facts. -/
theorem facts : Cert.Pre_parameters_finite.Facts where
  bcast_S_S768x3072 := by decide
  bcast_S_S3072 := by decide
  bcast_S_S3072x768 := by decide
  bcast_S_S768 := by decide
  bcast_S_S512x32 := by decide

/-- A number whose absolute value compares less than infinity is a real number. -/
theorem real_of_lt (x : EReal) (h : (FloatOps.cmpf .olt (FloatOps.hostAbsf (x : Ideal .f32)) (FloatOps.ofBits .f32 0x7F800000#32 : Ideal .f32) : BitVec 1) = 1#1) :
    x = (x.toReal : EReal) := by
  have ht : Ideal.ofBits .f32 0x7F800000#32 = (⊤ : EReal) := by simp [Ideal.ofBits, Ideal.ieee]
  have h' : BitVec.ofBool (decide (max x (-x) < Ideal.ofBits .f32 0x7F800000#32)) = 1#1 := h
  rw [ht] at h'
  have hlt : max x (-x) < ⊤ := by
    by_contra hc
    rw [decide_eq_false hc] at h'
    exact absurd h' (by decide)
  refine (EReal.coe_toReal (fun e => ?_) (fun e => ?_)).symm
  · subst e; exact absurd hlt (by simp)
  · subst e; exact absurd hlt (by simp)

section Runs

variable (m : (ℓ : Loc Cert.KernelIdeal.nD Cert.KernelIdeal.τ Cert.KernelIdeal.sig) → Buf (Elt Ideal) ℓ)

open Cert.KernelIdeal in
/-- The parameters' real numbers. -/
def w1 (c : Dev nD) (k : Fin 768) (l : Fin 3072) : ℝ := ((m ((c.tc : Thread nD τ).loc main_arg1) : FVec Ideal S768x3072 .f32) (ix2 k l) : EReal).toReal
open Cert.KernelIdeal in
@[inherit_doc w1] def b1 (c : Dev nD) (l : Fin 3072) : ℝ := ((m ((c.tc : Thread nD τ).loc main_arg2) : FVec Ideal S3072 .f32) (ix1 l) : EReal).toReal
open Cert.KernelIdeal in
@[inherit_doc w1] def w2 (c : Dev nD) (k : Fin 3072) (l : Fin 768) : ℝ := ((m ((c.tc : Thread nD τ).loc main_arg3) : FVec Ideal S3072x768 .f32) (ix2 k l) : EReal).toReal
open Cert.KernelIdeal in
@[inherit_doc w1] def b2 (c : Dev nD) (l : Fin 768) : ℝ := ((m ((c.tc : Thread nD τ).loc main_arg4) : FVec Ideal S768 .f32) (ix1 l) : EReal).toReal
open Cert.KernelIdeal in
@[inherit_doc w1] def cb (c : Dev nD) (k : Fin 512) (l : Fin 32) : ℝ := ((m ((c.tc : Thread nD τ).loc main_arg5) : FVec Ideal S512x32 .f32) (ix2 k l) : EReal).toReal

open Cert.KernelIdeal in
/-- The precondition says that every parameter is its real number. -/
theorem finite (hpre : Cert.Pre_KernelIdeal_parameters_finite (hPre_parameters_finite := facts) m) (c : Dev nD) :
    (∀ k l, (m ((c.tc : Thread nD τ).loc main_arg1) : FVec Ideal S768x3072 .f32) (ix2 k l) = (w1 m c k l : EReal))
    ∧ (∀ l, (m ((c.tc : Thread nD τ).loc main_arg2) : FVec Ideal S3072 .f32) (ix1 l) = (b1 m c l : EReal))
    ∧ (∀ k l, (m ((c.tc : Thread nD τ).loc main_arg3) : FVec Ideal S3072x768 .f32) (ix2 k l) = (w2 m c k l : EReal))
    ∧ (∀ l, (m ((c.tc : Thread nD τ).loc main_arg4) : FVec Ideal S768 .f32) (ix1 l) = (b2 m c l : EReal))
    ∧ (∀ k l, (m ((c.tc : Thread nD τ).loc main_arg5) : FVec Ideal S512x32 .f32) (ix2 k l) = (cb m c k l : EReal)) := by
  obtain ⟨p1, p2, p3, p4, p5⟩ := hpre c
  exact ⟨fun k l => real_of_lt _ (congrFun p1 (ix2 k l)), fun l => real_of_lt _ (congrFun p2 (ix1 l)), fun k l => real_of_lt _ (congrFun p3 (ix2 k l)),
    fun l => real_of_lt _ (congrFun p4 (ix1 l)), fun k l => real_of_lt _ (congrFun p5 (ix2 k l))⟩

open Cert.KernelIdeal in
/-- The result both programs leave. -/
def G (c : Dev nD) : FVec Ideal S4096x768 .f32 := Cert.KernelIdeal.Val.final m c (w1 m c) (b1 m c) (w2 m c) (b2 m c) (cb m c)

open Cert.KernelIdeal Cert.KernelIdeal.Gen Cert.KernelIdeal.Hand in
/-- The kernel's run leaves it. -/
theorem run_kernel (ρ : Dev nD → PrngReg) (hpre : Cert.Pre_KernelIdeal_parameters_finite (hPre_parameters_finite := facts) m) :
    θ_run (defs (F := Ideal)) (onTc (τ := τ) (main (F := Ideal))) ⟨m, fun _ => 0, ρ⟩ (fun r => ∀ c : Dev nD,
      r.2.mem ((c.tc : Thread nD τ).loc main_v19) = G m c) := by
  refine (θ_run defs _ _).mono (fun r h c => ?_) (run_main m ρ)
  obtain ⟨h1, h2, h3, h4, h5⟩ := finite m hpre c
  exact (h.out_eq c 7).trans (Cert.KernelIdeal.Val.arr_final m c _ _ _ _ _ h1 h2 h3 h4 h5)

end Runs

/-- The value claim. -/
theorem algebraic : Cert.algebraic_KernelIdeal_ReferenceIdeal_pre_parameters_finite (hKernelIdeal := Cert.KernelIdeal.Gen.facts)
    (hReferenceIdeal := Cert.ReferenceIdeal.Gen.facts) (hPre_parameters_finite := facts) := fun m ρ m' ρ' hpre hag => by
  refine ⟨G m, ?_, ?_⟩
  · refine (θ_run Cert.KernelIdeal.defs _ _).mono (fun r h c => ⟨h.1 c, h.2.1 c⟩)
      (θ_run_and (run_kernel m ρ hpre) (Cert.KernelIdeal.Hand.frame (F := Ideal) m ρ))
  · refine (θ_run Cert.ReferenceIdeal.defs _ _).mono (fun r h c => ⟨(h c).1.trans ?_, (h c).2⟩) (Cert.ReferenceIdeal.Value.run (F := Ideal) m' ρ')
    obtain ⟨h1, h2, h3, h4, h5⟩ := finite m hpre c
    obtain ⟨a0, a1, a2, a3, a4, a5⟩ := hag c
    rw [Cert.ReferenceIdeal.Val.res_eq]
    funext y
    have hy : y = ix2 (n0 := 4096) (n1 := 768) (y 0) (y 1) := by
      funext a
      match a with
      | ⟨0, _⟩ => rfl
      | ⟨1, _⟩ => rfl
    refine (congrArg (Cert.ReferenceIdeal.Val.result m' c) hy).trans ((Cert.ReferenceIdeal.Val.result_at m' c (w1 m c) (b1 m c) (w2 m c) (b2 m c) (cb m c)
      (fun k l => (congrFun a1 (ix2 k l)).trans (h1 k l)) (fun l => (congrFun a2 (ix1 l)).trans (h2 l))
      (fun k l => (congrFun a3 (ix2 k l)).trans (h3 k l)) (fun l => (congrFun a4 (ix1 l)).trans (h4 l))
      (fun k l => (congrFun a5 (ix2 k l)).trans (h5 k l)) (y 0) (y 1)).trans ?_)
    refine congrArg (fun x => Quant.out x (w1 m c) (b1 m c) (w2 m c) (b2 m c) (cb m c) (y 0) (y 1)) (funext fun R => funext fun k => ?_)
    exact congrFun a0 (ix3 ⟨R.val / 2048, by omega⟩ ⟨R.val % 2048, by omega⟩ k)

end Cert.Algebraic

end
-- ==== Proof.lean ====
/- The proof of the certificate's claim: each conjunct is proved in its own module. -/
module

public import proofs.«01_k».proof.Defs
public import proofs.«01_k».proof.Proof.Frames
public import proofs.«01_k».proof.Proof.Algebraic

@[expose] public section

noncomputable section

namespace Cert.Proof

/-- The claim. The two frames under the precondition are those that ask for nothing. -/
theorem claim : Cert.Claim := ⟨Cert.Kernel.Gen.facts, Cert.KernelIdeal.Gen.facts, Cert.ReferenceIdeal.Gen.facts, Cert.Algebraic.facts,
  Cert.Frames.kernel,
  Cert.Frames.kernelIdeal, fun m ρ _ => Cert.Frames.kernelIdeal m ρ trivial,
  Cert.Frames.referenceIdeal, fun m ρ _ => Cert.Frames.referenceIdeal m ρ trivial,
  Cert.Frames.preserves,
  Cert.Algebraic.algebraic⟩

end Cert.Proof

end
